-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_landmarks_in_range [hPre_landmarks_in_range : Cert.Pre_landmarks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_landmarks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_landmarks_in_range [hPre_landmarks_in_range : Cert.Pre_landmarks_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_landmarks_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_landmarks_in_range [hKernelIdeal : Cert.KernelIdeal.Facts] [hPre_landmarks_in_range : Cert.Pre_landmarks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_landmarks_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_landmarks_in_range [hReferenceIdeal : Cert.ReferenceIdeal.Facts] [hPre_landmarks_in_range : Cert.Pre_landmarks_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_landmarks_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_landmarks_in_range [hKernelIdeal : Cert.KernelIdeal.Facts] [hReferenceIdeal : Cert.ReferenceIdeal.Facts] [hPre_landmarks_in_range : Cert.Pre_landmarks_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_landmarks_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v455) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_landmarks_in_range : Cert.Pre_landmarks_in_range.Facts),
    quiescent_Kernel (hKernel := hKernel)
    ∧ quiescent_KernelIdeal (hKernelIdeal := hKernelIdeal)
    ∧ quiescent_KernelIdeal_pre_landmarks_in_range (hKernelIdeal := hKernelIdeal) (hPre_landmarks_in_range := hPre_landmarks_in_range)
    ∧ quiescent_ReferenceIdeal (hReferenceIdeal := hReferenceIdeal)
    ∧ quiescent_ReferenceIdeal_pre_landmarks_in_range (hReferenceIdeal := hReferenceIdeal) (hPre_landmarks_in_range := hPre_landmarks_in_range)
    ∧ preserves_Kernel_KernelIdeal
    ∧ algebraic_KernelIdeal_ReferenceIdeal_pre_landmarks_in_range (hKernelIdeal := hKernelIdeal) (hReferenceIdeal := hReferenceIdeal) (hPre_landmarks_in_range := hPre_landmarks_in_range)
-- ==== Pre_landmarks_in_range.lean ====
abbrev S8x3x96x96 : Shape := ⟨4, ![8, 3, 96, 96]⟩
abbrev S8x32x136 : Shape := ⟨3, ![8, 32, 136]⟩
abbrev S64x4x4x4 : Shape := ⟨4, ![64, 4, 4, 4]⟩
abbrev S64 : Shape := ⟨1, ![64]⟩
abbrev S128x64x4x4 : Shape := ⟨4, ![128, 64, 4, 4]⟩
abbrev S128 : Shape := ⟨1, ![128]⟩
abbrev S64x3x4x4 : Shape := ⟨4, ![64, 3, 4, 4]⟩
abbrev S3 : Shape := ⟨1, ![3]⟩
abbrev S_ : Shape := ⟨0, ![]⟩

class Facts : Prop where
  bcast_S_S8x32x136 : S_.BroadcastsInDim S8x32x136 (![] : Fin 0 → Fin S8x32x136.rank)

variable [Facts]

def fn {F : FTy → Type} [FloatOps F] (main_arg0 : FVec F S8x3x96x96 .f32) (main_arg1 : FVec F S8x32x136 .f32) (main_arg2 : FVec F S64x4x4x4 .f32) (main_arg3 : FVec F S64 .f32) (main_arg4 : FVec F S128x64x4x4 .f32) (main_arg5 : FVec F S128 .f32) (main_arg6 : FVec F S128x64x4x4 .f32) (main_arg7 : FVec F S64 .f32) (main_arg8 : FVec F S64x3x4x4 .f32) (main_arg9 : FVec F S3 .f32) : IVec S8x32x136 1 :=
  let main_cst : FVec F S_ .f32 := constant S_ .f32 0x00000000#32
  let main_v0 : FVec F S8x32x136 .f32 := broadcastInDim S8x32x136 ![] bcast_S_S8x32x136 main_cst
  let main_v1 : IVec S8x32x136 1 := cmpf .oge main_arg1 main_v0
  let main_cst_0 : FVec F S_ .f32 := constant S_ .f32 0x3F800000#32
  let main_v2 : FVec F S8x32x136 .f32 := broadcastInDim S8x32x136 ![] bcast_S_S8x32x136 main_cst_0
  let main_v3 : IVec S8x32x136 1 := cmpf .ole main_arg1 main_v2
  let main_v4 : IVec S8x32x136 1 := andi main_v1 main_v3
  main_v4
-- ==== Kernel.lean ====
abbrev S8x3x96x96 : Shape := ⟨4, ![8, 3, 96, 96]⟩
abbrev S8x32x136 : Shape := ⟨3, ![8, 32, 136]⟩
abbrev S64x4x4x4 : Shape := ⟨4, ![64, 4, 4, 4]⟩
abbrev S64 : Shape := ⟨1, ![64]⟩
abbrev S128x64x4x4 : Shape := ⟨4, ![128, 64, 4, 4]⟩
abbrev S128 : Shape := ⟨1, ![128]⟩
abbrev S64x3x4x4 : Shape := ⟨4, ![64, 3, 4, 4]⟩
abbrev S3 : Shape := ⟨1, ![3]⟩
abbrev S4x4x4x64 : Shape := ⟨4, ![4, 4, 4, 64]⟩
abbrev S64x64 : Shape := ⟨2, ![64, 64]⟩
abbrev S4x4x64x128 : Shape := ⟨4, ![4, 4, 64, 128]⟩
abbrev S1024x128 : Shape := ⟨2, ![1024, 128]⟩
abbrev S128x64x1x1 : Shape := ⟨4, ![128, 64, 1, 1]⟩
abbrev S128x64 : Shape := ⟨2, ![128, 64]⟩
abbrev S512x64 : Shape := ⟨2, ![512, 64]⟩
abbrev S1x512x64 : Shape := ⟨3, ![1, 512, 64]⟩
abbrev S4x512x64 : Shape := ⟨3, ![4, 512, 64]⟩
abbrev S64x3x1x1 : Shape := ⟨4, ![64, 3, 1, 1]⟩
abbrev S64x3 : Shape := ⟨2, ![64, 3]⟩
abbrev S256x3 : Shape := ⟨2, ![256, 3]⟩
abbrev S1x256x3 : Shape := ⟨3, ![1, 256, 3]⟩
abbrev S4x256x3 : Shape := ⟨3, ![4, 256, 3]⟩
abbrev S_ : Shape := ⟨0, ![]⟩
abbrev S256x12 : Shape := ⟨2, ![256, 12]⟩
abbrev S1024x12 : Shape := ⟨2, ![1024, 12]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S256x68x2 : Shape := ⟨3, ![256, 68, 2]⟩
abbrev S256x2x68 : Shape := ⟨3, ![256, 2, 68]⟩
abbrev S1x64 : Shape := ⟨2, ![1, 64]⟩
abbrev S1x128 : Shape := ⟨2, ![1, 128]⟩
abbrev S256x48x48x12 : Shape := ⟨4, ![256, 48, 48, 12]⟩
abbrev S1x3x96x96 : Shape := ⟨4, ![1, 3, 96, 96]⟩
abbrev S1x2x68 : Shape := ⟨3, ![1, 2, 68]⟩
abbrev S1x48x48x12 : Shape := ⟨4, ![1, 48, 48, 12]⟩
abbrev S2x68 : Shape := ⟨2, ![2, 68]⟩
abbrev S1x68 : Shape := ⟨2, ![1, 68]⟩
abbrev S96x68 : Shape := ⟨2, ![96, 68]⟩
abbrev S68x96 : Shape := ⟨2, ![68, 96]⟩
abbrev S96x96 : Shape := ⟨2, ![96, 96]⟩
abbrev S3x96x96 : Shape := ⟨3, ![3, 96, 96]⟩
abbrev S96x96x3 : Shape := ⟨3, ![96, 96, 3]⟩
abbrev S96x96x1 : Shape := ⟨3, ![96, 96, 1]⟩
abbrev S96x96x4 : Shape := ⟨3, ![96, 96, 4]⟩
abbrev S1x96x4 : Shape := ⟨3, ![1, 96, 4]⟩
abbrev S97x96x4 : Shape := ⟨3, ![97, 96, 4]⟩
abbrev S98x96x4 : Shape := ⟨3, ![98, 96, 4]⟩
abbrev S98x1x4 : Shape := ⟨3, ![98, 1, 4]⟩
abbrev S98x97x4 : Shape := ⟨3, ![98, 97, 4]⟩
abbrev S98x98x4 : Shape := ⟨3, ![98, 98, 4]⟩
abbrev S49x2x49x2x4 : Shape := ⟨5, ![49, 2, 49, 2, 4]⟩
abbrev S49x1x49x1x4 : Shape := ⟨5, ![49, 1, 49, 1, 4]⟩
abbrev S49x49x4 : Shape := ⟨3, ![49, 49, 4]⟩
abbrev S48x48x4 : Shape := ⟨3, ![48, 48, 4]⟩
abbrev S2304x4 : Shape := ⟨2, ![2304, 4]⟩
abbrev S2304x64 : Shape := ⟨2, ![2304, 64]⟩
abbrev S48x48x64 : Shape := ⟨3, ![48, 48, 64]⟩
abbrev S1x48x64 : Shape := ⟨3, ![1, 48, 64]⟩
abbrev S49x48x64 : Shape := ⟨3, ![49, 48, 64]⟩
abbrev S50x48x64 : Shape := ⟨3, ![50, 48, 64]⟩
abbrev S50x1x64 : Shape := ⟨3, ![50, 1, 64]⟩
abbrev S50x49x64 : Shape := ⟨3, ![50, 49, 64]⟩
abbrev S50x50x64 : Shape := ⟨3, ![50, 50, 64]⟩
abbrev S25x2x25x2x64 : Shape := ⟨5, ![25, 2, 25, 2, 64]⟩
abbrev S25x1x25x1x64 : Shape := ⟨5, ![25, 1, 25, 1, 64]⟩
abbrev S25x25x64 : Shape := ⟨3, ![25, 25, 64]⟩
abbrev S24x24x64 : Shape := ⟨3, ![24, 24, 64]⟩
abbrev S576x64 : Shape := ⟨2, ![576, 64]⟩
abbrev S576x1024 : Shape := ⟨2, ![576, 1024]⟩
abbrev S576x128 : Shape := ⟨2, ![576, 128]⟩
abbrev S24x24x128 : Shape := ⟨3, ![24, 24, 128]⟩
abbrev S1x24x128 : Shape := ⟨3, ![1, 24, 128]⟩
abbrev S25x24x128 : Shape := ⟨3, ![25, 24, 128]⟩
abbrev S26x24x128 : Shape := ⟨3, ![26, 24, 128]⟩
abbrev S26x1x128 : Shape := ⟨3, ![26, 1, 128]⟩
abbrev S26x25x128 : Shape := ⟨3, ![26, 25, 128]⟩
abbrev S26x26x128 : Shape := ⟨3, ![26, 26, 128]⟩
abbrev S576x512 : Shape := ⟨2, ![576, 512]⟩
abbrev S24x24x1x64 : Shape := ⟨4, ![24, 24, 1, 64]⟩
abbrev S24x24x2x64 : Shape := ⟨4, ![24, 24, 2, 64]⟩
abbrev S24x1x24x2x64 : Shape := ⟨5, ![24, 1, 24, 2, 64]⟩
abbrev S24x2x24x2x64 : Shape := ⟨5, ![24, 2, 24, 2, 64]⟩
abbrev S2304x256 : Shape := ⟨2, ![2304, 256]⟩
abbrev S2304x1024 : Shape := ⟨2, ![2304, 1024]⟩
abbrev S2304x12 : Shape := ⟨2, ![2304, 12]⟩
abbrev S48x48x12 : Shape := ⟨3, ![48, 48, 12]⟩
abbrev S256x48x48x2x2x3 : Shape := ⟨6, ![256, 48, 48, 2, 2, 3]⟩
abbrev S256x3x48x2x48x2 : Shape := ⟨6, ![256, 3, 48, 2, 48, 2]⟩
abbrev S8x32x3x96x96 : Shape := ⟨5, ![8, 32, 3, 96, 96]⟩

abbrev nBuf : Space → Nat
  | .hbm => 126
  | .vmem => 14
  | .smem => 0
  | _ => 0

abbrev bufTy : (tb : Table) → Fin (tcTables nBuf tb) → BufTy
  | .hbm, ⟨0, _⟩ => ⟨S8x3x96x96, .f32⟩
  | .hbm, ⟨1, _⟩ => ⟨S8x32x136, .f32⟩
  | .hbm, ⟨2, _⟩ => ⟨S64x4x4x4, .f32⟩
  | .hbm, ⟨3, _⟩ => ⟨S64, .f32⟩
  | .hbm, ⟨4, _⟩ => ⟨S128x64x4x4, .f32⟩
  | .hbm, ⟨5, _⟩ => ⟨S128, .f32⟩
  | .hbm, ⟨6, _⟩ => ⟨S128x64x4x4, .f32⟩
  | .hbm, ⟨7, _⟩ => ⟨S64, .f32⟩
  | .hbm, ⟨8, _⟩ => ⟨S64x3x4x4, .f32⟩
  | .hbm, ⟨9, _⟩ => ⟨S3, .f32⟩
  | .hbm, ⟨10, _⟩ => ⟨S4x4x4x64, .f32⟩
  | .hbm, ⟨11, _⟩ => ⟨S64x64, .f32⟩
  | .hbm, ⟨12, _⟩ => ⟨S4x4x64x128, .f32⟩
  | .hbm, ⟨13, _⟩ => ⟨S1024x128, .f32⟩
  | .hbm, ⟨14, _⟩ => ⟨S128x64x1x1, .f32⟩
  | .hbm, ⟨15, _⟩ => ⟨S128x64, .f32⟩
  | .hbm, ⟨16, _⟩ => ⟨S128x64x1x1, .f32⟩
  | .hbm, ⟨17, _⟩ => ⟨S128x64, .f32⟩
  | .hbm, ⟨18, _⟩ => ⟨S128x64x1x1, .f32⟩
  | .hbm, ⟨19, _⟩ => ⟨S128x64, .f32⟩
  | .hbm, ⟨20, _⟩ => ⟨S128x64x1x1, .f32⟩
  | .hbm, ⟨21, _⟩ => ⟨S128x64, .f32⟩
  | .hbm, ⟨22, _⟩ => ⟨S512x64, .f32⟩
  | .hbm, ⟨23, _⟩ => ⟨S128x64x1x1, .f32⟩
  | .hbm, ⟨24, _⟩ => ⟨S128x64, .f32⟩
  | .hbm, ⟨25, _⟩ => ⟨S128x64x1x1, .f32⟩
  | .hbm, ⟨26, _⟩ => ⟨S128x64, .f32⟩
  | .hbm, ⟨27, _⟩ => ⟨S128x64x1x1, .f32⟩
  | .hbm, ⟨28, _⟩ => ⟨S128x64, .f32⟩
  | .hbm, ⟨29, _⟩ => ⟨S128x64x1x1, .f32⟩
  | .hbm, ⟨30, _⟩ => ⟨S128x64, .f32⟩
  | .hbm, ⟨31, _⟩ => ⟨S512x64, .f32⟩
  | .hbm, ⟨32, _⟩ => ⟨S128x64x1x1, .f32⟩
  | .hbm, ⟨33, _⟩ => ⟨S128x64, .f32⟩
  | .hbm, ⟨34, _⟩ => ⟨S128x64x1x1, .f32⟩
  | .hbm, ⟨35, _⟩ => ⟨S128x64, .f32⟩
  | .hbm, ⟨36, _⟩ => ⟨S128x64x1x1, .f32⟩
  | .hbm, ⟨37, _⟩ => ⟨S128x64, .f32⟩
  | .hbm, ⟨38, _⟩ => ⟨S128x64x1x1, .f32⟩
  | .hbm, ⟨39, _⟩ => ⟨S128x64, .f32⟩
  | .hbm, ⟨40, _⟩ => ⟨S512x64, .f32⟩
  | .hbm, ⟨41, _⟩ => ⟨S128x64x1x1, .f32⟩
  | .hbm, ⟨42, _⟩ => ⟨S128x64, .f32⟩
  | .hbm, ⟨43, _⟩ => ⟨S128x64x1x1, .f32⟩
  | .hbm, ⟨44, _⟩ => ⟨S128x64, .f32⟩
  | .hbm, ⟨45, _⟩ => ⟨S128x64x1x1, .f32⟩
  | .hbm, ⟨46, _⟩ => ⟨S128x64, .f32⟩
  | .hbm, ⟨47, _⟩ => ⟨S128x64x1x1, .f32⟩
  | .hbm, ⟨48, _⟩ => ⟨S128x64, .f32⟩
  | .hbm, ⟨49, _⟩ => ⟨S512x64, .f32⟩
  | .hbm, ⟨50, _⟩ => ⟨S1x512x64, .f32⟩
  | .hbm, ⟨51, _⟩ => ⟨S1x512x64, .f32⟩
  | .hbm, ⟨52, _⟩ => ⟨S1x512x64, .f32⟩
  | .hbm, ⟨53, _⟩ => ⟨S1x512x64, .f32⟩
  | .hbm, ⟨54, _⟩ => ⟨S4x512x64, .f32⟩
  | .hbm, ⟨55, _⟩ => ⟨S64x3x1x1, .f32⟩
  | .hbm, ⟨56, _⟩ => ⟨S64x3, .f32⟩
  | .hbm, ⟨57, _⟩ => ⟨S64x3x1x1, .f32⟩
  | .hbm, ⟨58, _⟩ => ⟨S64x3, .f32⟩
  | .hbm, ⟨59, _⟩ => ⟨S64x3x1x1, .f32⟩
  | .hbm, ⟨60, _⟩ => ⟨S64x3, .f32⟩
  | .hbm, ⟨61, _⟩ => ⟨S64x3x1x1, .f32⟩
  | .hbm, ⟨62, _⟩ => ⟨S64x3, .f32⟩
  | .hbm, ⟨63, _⟩ => ⟨S256x3, .f32⟩
  | .hbm, ⟨64, _⟩ => ⟨S64x3x1x1, .f32⟩
  | .hbm, ⟨65, _⟩ => ⟨S64x3, .f32⟩
  | .hbm, ⟨66, _⟩ => ⟨S64x3x1x1, .f32⟩
  | .hbm, ⟨67, _⟩ => ⟨S64x3, .f32⟩
  | .hbm, ⟨68, _⟩ => ⟨S64x3x1x1, .f32⟩
  | .hbm, ⟨69, _⟩ => ⟨S64x3, .f32⟩
  | .hbm, ⟨70, _⟩ => ⟨S64x3x1x1, .f32⟩
  | .hbm, ⟨71, _⟩ => ⟨S64x3, .f32⟩
  | .hbm, ⟨72, _⟩ => ⟨S256x3, .f32⟩
  | .hbm, ⟨73, _⟩ => ⟨S64x3x1x1, .f32⟩
  | .hbm, ⟨74, _⟩ => ⟨S64x3, .f32⟩
  | .hbm, ⟨75, _⟩ => ⟨S64x3x1x1, .f32⟩
  | .hbm, ⟨76, _⟩ => ⟨S64x3, .f32⟩
  | .hbm, ⟨77, _⟩ => ⟨S64x3x1x1, .f32⟩
  | .hbm, ⟨78, _⟩ => ⟨S64x3, .f32⟩
  | .hbm, ⟨79, _⟩ => ⟨S64x3x1x1, .f32⟩
  | .hbm, ⟨80, _⟩ => ⟨S64x3, .f32⟩
  | .hbm, ⟨81, _⟩ => ⟨S256x3, .f32⟩
  | .hbm, ⟨82, _⟩ => ⟨S64x3x1x1, .f32⟩
  | .hbm, ⟨83, _⟩ => ⟨S64x3, .f32⟩
  | .hbm, ⟨84, _⟩ => ⟨S64x3x1x1, .f32⟩
  | .hbm, ⟨85, _⟩ => ⟨S64x3, .f32⟩
  | .hbm, ⟨86, _⟩ => ⟨S64x3x1x1, .f32⟩
  | .hbm, ⟨87, _⟩ => ⟨S64x3, .f32⟩
  | .hbm, ⟨88, _⟩ => ⟨S64x3x1x1, .f32⟩
  | .hbm, ⟨89, _⟩ => ⟨S64x3, .f32⟩
  | .hbm, ⟨90, _⟩ => ⟨S256x3, .f32⟩
  | .hbm, ⟨91, _⟩ => ⟨S1x256x3, .f32⟩
  | .hbm, ⟨92, _⟩ => ⟨S1x256x3, .f32⟩
  | .hbm, ⟨93, _⟩ => ⟨S1x256x3, .f32⟩
  | .hbm, ⟨94, _⟩ => ⟨S1x256x3, .f32⟩
  | .hbm, ⟨95, _⟩ => ⟨S4x256x3, .f32⟩
  | .hbm, ⟨96, _⟩ => ⟨S1x256x3, .f32⟩
  | .hbm, ⟨97, _⟩ => ⟨S256x3, .f32⟩
  | .hbm, ⟨98, _⟩ => ⟨S1x256x3, .f32⟩
  | .hbm, ⟨99, _⟩ => ⟨S256x3, .f32⟩
  | .hbm, ⟨100, _⟩ => ⟨S1x256x3, .f32⟩
  | .hbm, ⟨101, _⟩ => ⟨S256x3, .f32⟩
  | .hbm, ⟨102, _⟩ => ⟨S1x256x3, .f32⟩
  | .hbm, ⟨103, _⟩ => ⟨S256x3, .f32⟩
  | .hbm, ⟨104, _⟩ => ⟨S_, .f32⟩
  | .hbm, ⟨105, _⟩ => ⟨S256x12, .f32⟩
  | .hbm, ⟨106, _⟩ => ⟨S_, .f32⟩
  | .hbm, ⟨107, _⟩ => ⟨S256x12, .f32⟩
  | .hbm, ⟨108, _⟩ => ⟨S_, .f32⟩
  | .hbm, ⟨109, _⟩ => ⟨S256x12, .f32⟩
  | .hbm, ⟨110, _⟩ => ⟨S_, .f32⟩
  | .hbm, ⟨111, _⟩ => ⟨S256x12, .f32⟩
  | .hbm, ⟨112, _⟩ => ⟨S1024x12, .f32⟩
  | .hbm, ⟨113, _⟩ => ⟨S1x3, .f32⟩
  | .hbm, ⟨114, _⟩ => ⟨S4x3, .f32⟩
  | .hbm, ⟨115, _⟩ => ⟨S12, .f32⟩
  | .hbm, ⟨116, _⟩ => ⟨S1x12, .f32⟩
  | .hbm, ⟨117, _⟩ => ⟨S256x68x2, .f32⟩
  | .hbm, ⟨118, _⟩ => ⟨S256x2x68, .f32⟩
  | .hbm, ⟨119, _⟩ => ⟨S1x64, .f32⟩
  | .hbm, ⟨120, _⟩ => ⟨S1x128, .f32⟩
  | .hbm, ⟨121, _⟩ => ⟨S1x64, .f32⟩
  | .hbm, ⟨122, _⟩ => ⟨S256x48x48x12, .f32⟩
  | .hbm, ⟨123, _⟩ => ⟨S256x48x48x2x2x3, .f32⟩
  | .hbm, ⟨124, _⟩ => ⟨S256x3x48x2x48x2, .f32⟩
  | .hbm, ⟨125, _⟩ => ⟨S8x32x3x96x96, .f32⟩
  | .local _ .vmem, ⟨0, _⟩ => ⟨S1x3x96x96, .f32⟩
  | .local _ .vmem, ⟨1, _⟩ => ⟨S1x3x96x96, .f32⟩
  | .local _ .vmem, ⟨2, _⟩ => ⟨S1x2x68, .f32⟩
  | .local _ .vmem, ⟨3, _⟩ => ⟨S1x2x68, .f32⟩
  | .local _ .vmem, ⟨4, _⟩ => ⟨S64x64, .f32⟩
  | .local _ .vmem, ⟨5, _⟩ => ⟨S1x64, .f32⟩
  | .local _ .vmem, ⟨6, _⟩ => ⟨S1024x128, .f32⟩
  | .local _ .vmem, ⟨7, _⟩ => ⟨S1x128, .f32⟩
  | .local _ .vmem, ⟨8, _⟩ => ⟨S4x512x64, .f32⟩
  | .local _ .vmem, ⟨9, _⟩ => ⟨S1x64, .f32⟩
  | .local _ .vmem, ⟨10, _⟩ => ⟨S1024x12, .f32⟩
  | .local _ .vmem, ⟨11, _⟩ => ⟨S1x12, .f32⟩
  | .local _ .vmem, ⟨12, _⟩ => ⟨S1x48x48x12, .f32⟩
  | .local _ .vmem, ⟨13, _⟩ => ⟨S1x48x48x12, .f32⟩
  | _, _ => ⟨S8x3x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_call0_cst : Ref sig .tc := ⟨.hbm, 104, rfl⟩
abbrev main_call0_v4 : Ref sig .tc := ⟨.hbm, 105, rfl⟩
abbrev main_call0_cst_0 : Ref sig .tc := ⟨.hbm, 106, rfl⟩
abbrev main_call0_v5 : Ref sig .tc := ⟨.hbm, 107, rfl⟩
abbrev main_call0_cst_1 : Ref sig .tc := ⟨.hbm, 108, rfl⟩
abbrev main_call0_v6 : Ref sig .tc := ⟨.hbm, 109, rfl⟩
abbrev main_call0_cst_2 : Ref sig .tc := ⟨.hbm, 110, rfl⟩
abbrev main_call0_v7 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x68 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x48x48x12 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x3x96x96 : Shape := ⟨4, ![8, 3, 96, 96]⟩
abbrev S8x32x136 : Shape := ⟨3, ![8, 32, 136]⟩
abbrev S64x4x4x4 : Shape := ⟨4, ![64, 4, 4, 4]⟩
abbrev S64 : Shape := ⟨1, ![64]⟩
abbrev S128x64x4x4 : Shape := ⟨4, ![128, 64, 4, 4]⟩
abbrev S128 : Shape := ⟨1, ![128]⟩
abbrev S64x3x4x4 : Shape := ⟨4, ![64, 3, 4, 4]⟩
abbrev S3 : Shape := ⟨1, ![3]⟩
abbrev S8x1x3x96x96 : Shape := ⟨5, ![8, 1, 3, 96, 96]⟩
abbrev S8x32x3x96x96 : Shape := ⟨5, ![8, 32, 3, 96, 96]⟩
abbrev S256x3x96x96 : Shape := ⟨4, ![256, 3, 96, 96]⟩
abbrev S256x68x2 : Shape := ⟨3, ![256, 68, 2]⟩
abbrev S_ : Shape := ⟨0, ![]⟩
abbrev S256x68x1 : Shape := ⟨3, ![256, 68, 1]⟩
abbrev S256x68 : Shape := ⟨2, ![256, 68]⟩
abbrev S256 : Shape := ⟨1, ![256]⟩
abbrev S256x1 : Shape := ⟨2, ![256, 1]⟩
abbrev S256x96x96 : Shape := ⟨3, ![256, 96, 96]⟩
abbrev S256x68x3 : Shape := ⟨3, ![256, 68, 3]⟩
abbrev S256x1x96x96 : Shape := ⟨4, ![256, 1, 96, 96]⟩
abbrev S256x4x96x96 : Shape := ⟨4, ![256, 4, 96, 96]⟩
abbrev S256x4x98x98 : Shape := ⟨4, ![256, 4, 98, 98]⟩
abbrev S256x4x48x48 : Shape := ⟨4, ![256, 4, 48, 48]⟩
abbrev S64x4x1x1 : Shape := ⟨4, ![64, 4, 1, 1]⟩
abbrev S64x4 : Shape := ⟨2, ![64, 4]⟩
abbrev S64x256x48x48 : Shape := ⟨4, ![64, 256, 48, 48]⟩
abbrev S256x64x48x48 : Shape := ⟨4, ![256, 64, 48, 48]⟩
abbrev S1x64x1x1 : Shape := ⟨4, ![1, 64, 1, 1]⟩
abbrev S256x64x50x50 : Shape := ⟨4, ![256, 64, 50, 50]⟩
abbrev S256x64x24x24 : Shape := ⟨4, ![256, 64, 24, 24]⟩
abbrev S128x64x1x1 : Shape := ⟨4, ![128, 64, 1, 1]⟩
abbrev S128x64 : Shape := ⟨2, ![128, 64]⟩
abbrev S128x256x24x24 : Shape := ⟨4, ![128, 256, 24, 24]⟩
abbrev S256x128x24x24 : Shape := ⟨4, ![256, 128, 24, 24]⟩
abbrev S1x128x1x1 : Shape := ⟨4, ![1, 128, 1, 1]⟩
abbrev S64x128x4x4 : Shape := ⟨4, ![64, 128, 4, 4]⟩
abbrev S256x128x51x51 : Shape := ⟨4, ![256, 128, 51, 51]⟩
abbrev S256x128x48x48 : Shape := ⟨4, ![256, 128, 48, 48]⟩
abbrev S64x128x1x1 : Shape := ⟨4, ![64, 128, 1, 1]⟩
abbrev S64x128 : Shape := ⟨2, ![64, 128]⟩
abbrev S3x64x4x4 : Shape := ⟨4, ![3, 64, 4, 4]⟩
abbrev S256x64x99x99 : Shape := ⟨4, ![256, 64, 99, 99]⟩
abbrev S256x64x96x96 : Shape := ⟨4, ![256, 64, 96, 96]⟩
abbrev S3x64x1x1 : Shape := ⟨4, ![3, 64, 1, 1]⟩
abbrev S3x64 : Shape := ⟨2, ![3, 64]⟩
abbrev S3x256x96x96 : Shape := ⟨4, ![3, 256, 96, 96]⟩
abbrev S1x3x1x1 : Shape := ⟨4, ![1, 3, 1, 1]⟩

abbrev nBuf : Space → Nat
  | .hbm => 497
  | .vmem => 0
  | .smem => 0
  | _ => 0

abbrev hbmTy0_0 (i : Nat) : BufTy := match i % 128 with
  | 0 => ⟨S8x3x96x96, .f32⟩
  | 1 => ⟨S8x32x136, .f32⟩
  | 2 => ⟨S64x4x4x4, .f32⟩
  | 3 => ⟨S64, .f32⟩
  | 4 => ⟨S128x64x4x4, .f32⟩
  | 5 => ⟨S128, .f32⟩
  | 6 => ⟨S128x64x4x4, .f32⟩
  | 7 => ⟨S64, .f32⟩
  | 8 => ⟨S64x3x4x4, .f32⟩
  | 9 => ⟨S3, .f32⟩
  | 10 => ⟨S8x1x3x96x96, .f32⟩
  | 11 => ⟨S8x32x3x96x96, .f32⟩
  | 12 => ⟨S256x3x96x96, .f32⟩
  | 13 => ⟨S256x68x2, .f32⟩
  | 14 => ⟨S_, .f32⟩
  | 15 => ⟨S256x68x2, .f32⟩
  | 16 => ⟨S256x68x2, .f32⟩
  | 17 => ⟨S256x68x2, .i32⟩
  | 18 => ⟨S256x68x1, .i32⟩
  | 19 => ⟨S256x68, .i32⟩
  | 20 => ⟨S256x68x1, .i32⟩
  | 21 => ⟨S256x68, .i32⟩
  | 22 => ⟨S_, .i32⟩
  | 23 => ⟨S256x68, .i32⟩
  | 24 => ⟨S256x68, .i1⟩
  | 25 => ⟨S_, .i32⟩
  | 26 => ⟨S256x68, .i32⟩
  | 27 => ⟨S256x68, .i1⟩
  | 28 => ⟨S256x68, .i1⟩
  | 29 => ⟨S_, .i32⟩
  | 30 => ⟨S256x68, .i32⟩
  | 31 => ⟨S256x68, .i1⟩
  | 32 => ⟨S256x68, .i1⟩
  | 33 => ⟨S_, .i32⟩
  | 34 => ⟨S256x68, .i32⟩
  | 35 => ⟨S256x68, .i1⟩
  | 36 => ⟨S256x68, .i1⟩
  | 37 => ⟨S_, .i32⟩
  | 38 => ⟨S_, .i32⟩
  | 39 => ⟨S256x68, .i32⟩
  | 40 => ⟨S256x68, .i32⟩
  | 41 => ⟨S_, .i32⟩
  | 42 => ⟨S_, .i32⟩
  | 43 => ⟨S256x68, .i32⟩
  | 44 => ⟨S256x68, .i32⟩
  | 45 => ⟨S256, .i32⟩
  | 46 => ⟨S256x1, .i32⟩
  | 47 => ⟨S256x68, .i32⟩
  | 48 => ⟨S_, .f32⟩
  | 49 => ⟨S256x96x96, .f32⟩
  | 50 => ⟨S_, .i32⟩
  | 51 => ⟨S256x68, .i32⟩
  | 52 => ⟨S256x68, .i1⟩
  | 53 => ⟨S_, .i32⟩
  | 54 => ⟨S256x68, .i32⟩
  | 55 => ⟨S256x68, .i32⟩
  | 56 => ⟨S256x68, .i32⟩
  | 57 => ⟨S_, .i32⟩
  | 58 => ⟨S256x68, .i32⟩
  | 59 => ⟨S256x68, .i1⟩
  | 60 => ⟨S_, .i32⟩
  | 61 => ⟨S256x68, .i32⟩
  | 62 => ⟨S256x68, .i32⟩
  | 63 => ⟨S256x68, .i32⟩
  | 64 => ⟨S_, .i32⟩
  | 65 => ⟨S256x68, .i32⟩
  | 66 => ⟨S256x68, .i1⟩
  | 67 => ⟨S_, .i32⟩
  | 68 => ⟨S256x68, .i32⟩
  | 69 => ⟨S256x68, .i32⟩
  | 70 => ⟨S256x68, .i32⟩
  | 71 => ⟨S256x68x1, .i32⟩
  | 72 => ⟨S256x68x1, .i32⟩
  | 73 => ⟨S256x68x1, .i32⟩
  | 74 => ⟨S256x68x3, .i32⟩
  | 75 => ⟨S_, .f32⟩
  | 76 => ⟨S256x68, .f32⟩
  | 77 => ⟨S256x96x96, .f32⟩
  | 78 => ⟨S256x1x96x96, .f32⟩
  | 79 => ⟨S256x4x96x96, .f32⟩
  | 80 => ⟨S_, .i32⟩
  | 81 => ⟨S_, .f32⟩
  | 82 => ⟨S256x4x98x98, .f32⟩
  | 83 => ⟨S256x4x48x48, .f32⟩
  | 84 => ⟨S64x4x1x1, .f32⟩
  | 85 => ⟨S64x4, .f32⟩
  | 86 => ⟨S64x256x48x48, .f32⟩
  | 87 => ⟨S256x64x48x48, .f32⟩
  | 88 => ⟨S256x4x48x48, .f32⟩
  | 89 => ⟨S64x4x1x1, .f32⟩
  | 90 => ⟨S64x4, .f32⟩
  | 91 => ⟨S64x256x48x48, .f32⟩
  | 92 => ⟨S256x64x48x48, .f32⟩
  | 93 => ⟨S256x64x48x48, .f32⟩
  | 94 => ⟨S256x4x48x48, .f32⟩
  | 95 => ⟨S64x4x1x1, .f32⟩
  | 96 => ⟨S64x4, .f32⟩
  | 97 => ⟨S64x256x48x48, .f32⟩
  | 98 => ⟨S256x64x48x48, .f32⟩
  | 99 => ⟨S256x64x48x48, .f32⟩
  | 100 => ⟨S256x4x48x48, .f32⟩
  | 101 => ⟨S64x4x1x1, .f32⟩
  | 102 => ⟨S64x4, .f32⟩
  | 103 => ⟨S64x256x48x48, .f32⟩
  | 104 => ⟨S256x64x48x48, .f32⟩
  | 105 => ⟨S256x64x48x48, .f32⟩
  | 106 => ⟨S256x4x48x48, .f32⟩
  | 107 => ⟨S64x4x1x1, .f32⟩
  | 108 => ⟨S64x4, .f32⟩
  | 109 => ⟨S64x256x48x48, .f32⟩
  | 110 => ⟨S256x64x48x48, .f32⟩
  | 111 => ⟨S256x64x48x48, .f32⟩
  | 112 => ⟨S256x4x48x48, .f32⟩
  | 113 => ⟨S64x4x1x1, .f32⟩
  | 114 => ⟨S64x4, .f32⟩
  | 115 => ⟨S64x256x48x48, .f32⟩
  | 116 => ⟨S256x64x48x48, .f32⟩
  | 117 => ⟨S256x64x48x48, .f32⟩
  | 118 => ⟨S256x4x48x48, .f32⟩
  | 119 => ⟨S64x4x1x1, .f32⟩
  | 120 => ⟨S64x4, .f32⟩
  | 121 => ⟨S64x256x48x48, .f32⟩
  | 122 => ⟨S256x64x48x48, .f32⟩
  | 123 => ⟨S256x64x48x48, .f32⟩
  | 124 => ⟨S256x4x48x48, .f32⟩
  | 125 => ⟨S64x4x1x1, .f32⟩
  | 126 => ⟨S64x4, .f32⟩
  | 127 => ⟨S64x256x48x48, .f32⟩
  | _ => ⟨S8x3x96x96, .f32⟩

abbrev hbmTy0_1 (i : Nat) : BufTy := match i % 128 with
  | 0 => ⟨S256x64x48x48, .f32⟩
  | 1 => ⟨S256x64x48x48, .f32⟩
  | 2 => ⟨S256x4x48x48, .f32⟩
  | 3 => ⟨S64x4x1x1, .f32⟩
  | 4 => ⟨S64x4, .f32⟩
  | 5 => ⟨S64x256x48x48, .f32⟩
  | 6 => ⟨S256x64x48x48, .f32⟩
  | 7 => ⟨S256x64x48x48, .f32⟩
  | 8 => ⟨S256x4x48x48, .f32⟩
  | 9 => ⟨S64x4x1x1, .f32⟩
  | 10 => ⟨S64x4, .f32⟩
  | 11 => ⟨S64x256x48x48, .f32⟩
  | 12 => ⟨S256x64x48x48, .f32⟩
  | 13 => ⟨S256x64x48x48, .f32⟩
  | 14 => ⟨S256x4x48x48, .f32⟩
  | 15 => ⟨S64x4x1x1, .f32⟩
  | 16 => ⟨S64x4, .f32⟩
  | 17 => ⟨S64x256x48x48, .f32⟩
  | 18 => ⟨S256x64x48x48, .f32⟩
  | 19 => ⟨S256x64x48x48, .f32⟩
  | 20 => ⟨S256x4x48x48, .f32⟩
  | 21 => ⟨S64x4x1x1, .f32⟩
  | 22 => ⟨S64x4, .f32⟩
  | 23 => ⟨S64x256x48x48, .f32⟩
  | 24 => ⟨S256x64x48x48, .f32⟩
  | 25 => ⟨S256x64x48x48, .f32⟩
  | 26 => ⟨S256x4x48x48, .f32⟩
  | 27 => ⟨S64x4x1x1, .f32⟩
  | 28 => ⟨S64x4, .f32⟩
  | 29 => ⟨S64x256x48x48, .f32⟩
  | 30 => ⟨S256x64x48x48, .f32⟩
  | 31 => ⟨S256x64x48x48, .f32⟩
  | 32 => ⟨S256x4x48x48, .f32⟩
  | 33 => ⟨S64x4x1x1, .f32⟩
  | 34 => ⟨S64x4, .f32⟩
  | 35 => ⟨S64x256x48x48, .f32⟩
  | 36 => ⟨S256x64x48x48, .f32⟩
  | 37 => ⟨S256x64x48x48, .f32⟩
  | 38 => ⟨S256x4x48x48, .f32⟩
  | 39 => ⟨S64x4x1x1, .f32⟩
  | 40 => ⟨S64x4, .f32⟩
  | 41 => ⟨S64x256x48x48, .f32⟩
  | 42 => ⟨S256x64x48x48, .f32⟩
  | 43 => ⟨S256x64x48x48, .f32⟩
  | 44 => ⟨S256x4x48x48, .f32⟩
  | 45 => ⟨S64x4x1x1, .f32⟩
  | 46 => ⟨S64x4, .f32⟩
  | 47 => ⟨S64x256x48x48, .f32⟩
  | 48 => ⟨S256x64x48x48, .f32⟩
  | 49 => ⟨S256x64x48x48, .f32⟩
  | 50 => ⟨S1x64x1x1, .f32⟩
  | 51 => ⟨S256x64x48x48, .f32⟩
  | 52 => ⟨S256x64x48x48, .f32⟩
  | 53 => ⟨S_, .f32⟩
  | 54 => ⟨S256x64x48x48, .f32⟩
  | 55 => ⟨S256x64x48x48, .f32⟩
  | 56 => ⟨S_, .i32⟩
  | 57 => ⟨S_, .f32⟩
  | 58 => ⟨S256x64x50x50, .f32⟩
  | 59 => ⟨S256x64x24x24, .f32⟩
  | 60 => ⟨S128x64x1x1, .f32⟩
  | 61 => ⟨S128x64, .f32⟩
  | 62 => ⟨S128x256x24x24, .f32⟩
  | 63 => ⟨S256x128x24x24, .f32⟩
  | 64 => ⟨S256x64x24x24, .f32⟩
  | 65 => ⟨S128x64x1x1, .f32⟩
  | 66 => ⟨S128x64, .f32⟩
  | 67 => ⟨S128x256x24x24, .f32⟩
  | 68 => ⟨S256x128x24x24, .f32⟩
  | 69 => ⟨S256x128x24x24, .f32⟩
  | 70 => ⟨S256x64x24x24, .f32⟩
  | 71 => ⟨S128x64x1x1, .f32⟩
  | 72 => ⟨S128x64, .f32⟩
  | 73 => ⟨S128x256x24x24, .f32⟩
  | 74 => ⟨S256x128x24x24, .f32⟩
  | 75 => ⟨S256x128x24x24, .f32⟩
  | 76 => ⟨S256x64x24x24, .f32⟩
  | 77 => ⟨S128x64x1x1, .f32⟩
  | 78 => ⟨S128x64, .f32⟩
  | 79 => ⟨S128x256x24x24, .f32⟩
  | 80 => ⟨S256x128x24x24, .f32⟩
  | 81 => ⟨S256x128x24x24, .f32⟩
  | 82 => ⟨S256x64x24x24, .f32⟩
  | 83 => ⟨S128x64x1x1, .f32⟩
  | 84 => ⟨S128x64, .f32⟩
  | 85 => ⟨S128x256x24x24, .f32⟩
  | 86 => ⟨S256x128x24x24, .f32⟩
  | 87 => ⟨S256x128x24x24, .f32⟩
  | 88 => ⟨S256x64x24x24, .f32⟩
  | 89 => ⟨S128x64x1x1, .f32⟩
  | 90 => ⟨S128x64, .f32⟩
  | 91 => ⟨S128x256x24x24, .f32⟩
  | 92 => ⟨S256x128x24x24, .f32⟩
  | 93 => ⟨S256x128x24x24, .f32⟩
  | 94 => ⟨S256x64x24x24, .f32⟩
  | 95 => ⟨S128x64x1x1, .f32⟩
  | 96 => ⟨S128x64, .f32⟩
  | 97 => ⟨S128x256x24x24, .f32⟩
  | 98 => ⟨S256x128x24x24, .f32⟩
  | 99 => ⟨S256x128x24x24, .f32⟩
  | 100 => ⟨S256x64x24x24, .f32⟩
  | 101 => ⟨S128x64x1x1, .f32⟩
  | 102 => ⟨S128x64, .f32⟩
  | 103 => ⟨S128x256x24x24, .f32⟩
  | 104 => ⟨S256x128x24x24, .f32⟩
  | 105 => ⟨S256x128x24x24, .f32⟩
  | 106 => ⟨S256x64x24x24, .f32⟩
  | 107 => ⟨S128x64x1x1, .f32⟩
  | 108 => ⟨S128x64, .f32⟩
  | 109 => ⟨S128x256x24x24, .f32⟩
  | 110 => ⟨S256x128x24x24, .f32⟩
  | 111 => ⟨S256x128x24x24, .f32⟩
  | 112 => ⟨S256x64x24x24, .f32⟩
  | 113 => ⟨S128x64x1x1, .f32⟩
  | 114 => ⟨S128x64, .f32⟩
  | 115 => ⟨S128x256x24x24, .f32⟩
  | 116 => ⟨S256x128x24x24, .f32⟩
  | 117 => ⟨S256x128x24x24, .f32⟩
  | 118 => ⟨S256x64x24x24, .f32⟩
  | 119 => ⟨S128x64x1x1, .f32⟩
  | 120 => ⟨S128x64, .f32⟩
  | 121 => ⟨S128x256x24x24, .f32⟩
  | 122 => ⟨S256x128x24x24, .f32⟩
  | 123 => ⟨S256x128x24x24, .f32⟩
  | 124 => ⟨S256x64x24x24, .f32⟩
  | 125 => ⟨S128x64x1x1, .f32⟩
  | 126 => ⟨S128x64, .f32⟩
  | 127 => ⟨S128x256x24x24, .f32⟩
  | _ => ⟨S8x3x96x96, .f32⟩

abbrev hbmTy0_2 (i : Nat) : BufTy := match i % 128 with
  | 0 => ⟨S256x128x24x24, .f32⟩
  | 1 => ⟨S256x128x24x24, .f32⟩
  | 2 => ⟨S256x64x24x24, .f32⟩
  | 3 => ⟨S128x64x1x1, .f32⟩
  | 4 => ⟨S128x64, .f32⟩
  | 5 => ⟨S128x256x24x24, .f32⟩
  | 6 => ⟨S256x128x24x24, .f32⟩
  | 7 => ⟨S256x128x24x24, .f32⟩
  | 8 => ⟨S256x64x24x24, .f32⟩
  | 9 => ⟨S128x64x1x1, .f32⟩
  | 10 => ⟨S128x64, .f32⟩
  | 11 => ⟨S128x256x24x24, .f32⟩
  | 12 => ⟨S256x128x24x24, .f32⟩
  | 13 => ⟨S256x128x24x24, .f32⟩
  | 14 => ⟨S256x64x24x24, .f32⟩
  | 15 => ⟨S128x64x1x1, .f32⟩
  | 16 => ⟨S128x64, .f32⟩
  | 17 => ⟨S128x256x24x24, .f32⟩
  | 18 => ⟨S256x128x24x24, .f32⟩
  | 19 => ⟨S256x128x24x24, .f32⟩
  | 20 => ⟨S256x64x24x24, .f32⟩
  | 21 => ⟨S128x64x1x1, .f32⟩
  | 22 => ⟨S128x64, .f32⟩
  | 23 => ⟨S128x256x24x24, .f32⟩
  | 24 => ⟨S256x128x24x24, .f32⟩
  | 25 => ⟨S256x128x24x24, .f32⟩
  | 26 => ⟨S1x128x1x1, .f32⟩
  | 27 => ⟨S256x128x24x24, .f32⟩
  | 28 => ⟨S256x128x24x24, .f32⟩
  | 29 => ⟨S_, .f32⟩
  | 30 => ⟨S256x128x24x24, .f32⟩
  | 31 => ⟨S256x128x24x24, .f32⟩
  | 32 => ⟨S128x64x4x4, .f32⟩
  | 33 => ⟨S64x128x4x4, .f32⟩
  | 34 => ⟨S_, .f32⟩
  | 35 => ⟨S256x128x51x51, .f32⟩
  | 36 => ⟨S256x128x48x48, .f32⟩
  | 37 => ⟨S64x128x1x1, .f32⟩
  | 38 => ⟨S64x128, .f32⟩
  | 39 => ⟨S64x256x48x48, .f32⟩
  | 40 => ⟨S256x64x48x48, .f32⟩
  | 41 => ⟨S256x128x48x48, .f32⟩
  | 42 => ⟨S64x128x1x1, .f32⟩
  | 43 => ⟨S64x128, .f32⟩
  | 44 => ⟨S64x256x48x48, .f32⟩
  | 45 => ⟨S256x64x48x48, .f32⟩
  | 46 => ⟨S256x64x48x48, .f32⟩
  | 47 => ⟨S256x128x48x48, .f32⟩
  | 48 => ⟨S64x128x1x1, .f32⟩
  | 49 => ⟨S64x128, .f32⟩
  | 50 => ⟨S64x256x48x48, .f32⟩
  | 51 => ⟨S256x64x48x48, .f32⟩
  | 52 => ⟨S256x64x48x48, .f32⟩
  | 53 => ⟨S256x128x48x48, .f32⟩
  | 54 => ⟨S64x128x1x1, .f32⟩
  | 55 => ⟨S64x128, .f32⟩
  | 56 => ⟨S64x256x48x48, .f32⟩
  | 57 => ⟨S256x64x48x48, .f32⟩
  | 58 => ⟨S256x64x48x48, .f32⟩
  | 59 => ⟨S256x128x48x48, .f32⟩
  | 60 => ⟨S64x128x1x1, .f32⟩
  | 61 => ⟨S64x128, .f32⟩
  | 62 => ⟨S64x256x48x48, .f32⟩
  | 63 => ⟨S256x64x48x48, .f32⟩
  | 64 => ⟨S256x64x48x48, .f32⟩
  | 65 => ⟨S256x128x48x48, .f32⟩
  | 66 => ⟨S64x128x1x1, .f32⟩
  | 67 => ⟨S64x128, .f32⟩
  | 68 => ⟨S64x256x48x48, .f32⟩
  | 69 => ⟨S256x64x48x48, .f32⟩
  | 70 => ⟨S256x64x48x48, .f32⟩
  | 71 => ⟨S256x128x48x48, .f32⟩
  | 72 => ⟨S64x128x1x1, .f32⟩
  | 73 => ⟨S64x128, .f32⟩
  | 74 => ⟨S64x256x48x48, .f32⟩
  | 75 => ⟨S256x64x48x48, .f32⟩
  | 76 => ⟨S256x64x48x48, .f32⟩
  | 77 => ⟨S256x128x48x48, .f32⟩
  | 78 => ⟨S64x128x1x1, .f32⟩
  | 79 => ⟨S64x128, .f32⟩
  | 80 => ⟨S64x256x48x48, .f32⟩
  | 81 => ⟨S256x64x48x48, .f32⟩
  | 82 => ⟨S256x64x48x48, .f32⟩
  | 83 => ⟨S256x128x48x48, .f32⟩
  | 84 => ⟨S64x128x1x1, .f32⟩
  | 85 => ⟨S64x128, .f32⟩
  | 86 => ⟨S64x256x48x48, .f32⟩
  | 87 => ⟨S256x64x48x48, .f32⟩
  | 88 => ⟨S256x64x48x48, .f32⟩
  | 89 => ⟨S256x128x48x48, .f32⟩
  | 90 => ⟨S64x128x1x1, .f32⟩
  | 91 => ⟨S64x128, .f32⟩
  | 92 => ⟨S64x256x48x48, .f32⟩
  | 93 => ⟨S256x64x48x48, .f32⟩
  | 94 => ⟨S256x64x48x48, .f32⟩
  | 95 => ⟨S256x128x48x48, .f32⟩
  | 96 => ⟨S64x128x1x1, .f32⟩
  | 97 => ⟨S64x128, .f32⟩
  | 98 => ⟨S64x256x48x48, .f32⟩
  | 99 => ⟨S256x64x48x48, .f32⟩
  | 100 => ⟨S256x64x48x48, .f32⟩
  | 101 => ⟨S256x128x48x48, .f32⟩
  | 102 => ⟨S64x128x1x1, .f32⟩
  | 103 => ⟨S64x128, .f32⟩
  | 104 => ⟨S64x256x48x48, .f32⟩
  | 105 => ⟨S256x64x48x48, .f32⟩
  | 106 => ⟨S256x64x48x48, .f32⟩
  | 107 => ⟨S256x128x48x48, .f32⟩
  | 108 => ⟨S64x128x1x1, .f32⟩
  | 109 => ⟨S64x128, .f32⟩
  | 110 => ⟨S64x256x48x48, .f32⟩
  | 111 => ⟨S256x64x48x48, .f32⟩
  | 112 => ⟨S256x64x48x48, .f32⟩
  | 113 => ⟨S256x128x48x48, .f32⟩
  | 114 => ⟨S64x128x1x1, .f32⟩
  | 115 => ⟨S64x128, .f32⟩
  | 116 => ⟨S64x256x48x48, .f32⟩
  | 117 => ⟨S256x64x48x48, .f32⟩
  | 118 => ⟨S256x64x48x48, .f32⟩
  | 119 => ⟨S256x128x48x48, .f32⟩
  | 120 => ⟨S64x128x1x1, .f32⟩
  | 121 => ⟨S64x128, .f32⟩
  | 122 => ⟨S64x256x48x48, .f32⟩
  | 123 => ⟨S256x64x48x48, .f32⟩
  | 124 => ⟨S256x64x48x48, .f32⟩
  | 125 => ⟨S256x128x48x48, .f32⟩
  | 126 => ⟨S64x128x1x1, .f32⟩
  | 127 => ⟨S64x128, .f32⟩
  | _ => ⟨S8x3x96x96, .f32⟩

abbrev hbmTy0_3 (i : Nat) : BufTy := match i % 128 with
  | 0 => ⟨S64x256x48x48, .f32⟩
  | 1 => ⟨S256x64x48x48, .f32⟩
  | 2 => ⟨S256x64x48x48, .f32⟩
  | 3 => ⟨S1x64x1x1, .f32⟩
  | 4 => ⟨S256x64x48x48, .f32⟩
  | 5 => ⟨S256x64x48x48, .f32⟩
  | 6 => ⟨S_, .f32⟩
  | 7 => ⟨S256x64x48x48, .f32⟩
  | 8 => ⟨S256x64x48x48, .f32⟩
  | 9 => ⟨S64x3x4x4, .f32⟩
  | 10 => ⟨S3x64x4x4, .f32⟩
  | 11 => ⟨S_, .f32⟩
  | 12 => ⟨S256x64x99x99, .f32⟩
  | 13 => ⟨S256x64x96x96, .f32⟩
  | 14 => ⟨S3x64x1x1, .f32⟩
  | 15 => ⟨S3x64, .f32⟩
  | 16 => ⟨S3x256x96x96, .f32⟩
  | 17 => ⟨S256x3x96x96, .f32⟩
  | 18 => ⟨S256x64x96x96, .f32⟩
  | 19 => ⟨S3x64x1x1, .f32⟩
  | 20 => ⟨S3x64, .f32⟩
  | 21 => ⟨S3x256x96x96, .f32⟩
  | 22 => ⟨S256x3x96x96, .f32⟩
  | 23 => ⟨S256x3x96x96, .f32⟩
  | 24 => ⟨S256x64x96x96, .f32⟩
  | 25 => ⟨S3x64x1x1, .f32⟩
  | 26 => ⟨S3x64, .f32⟩
  | 27 => ⟨S3x256x96x96, .f32⟩
  | 28 => ⟨S256x3x96x96, .f32⟩
  | 29 => ⟨S256x3x96x96, .f32⟩
  | 30 => ⟨S256x64x96x96, .f32⟩
  | 31 => ⟨S3x64x1x1, .f32⟩
  | 32 => ⟨S3x64, .f32⟩
  | 33 => ⟨S3x256x96x96, .f32⟩
  | 34 => ⟨S256x3x96x96, .f32⟩
  | 35 => ⟨S256x3x96x96, .f32⟩
  | 36 => ⟨S256x64x96x96, .f32⟩
  | 37 => ⟨S3x64x1x1, .f32⟩
  | 38 => ⟨S3x64, .f32⟩
  | 39 => ⟨S3x256x96x96, .f32⟩
  | 40 => ⟨S256x3x96x96, .f32⟩
  | 41 => ⟨S256x3x96x96, .f32⟩
  | 42 => ⟨S256x64x96x96, .f32⟩
  | 43 => ⟨S3x64x1x1, .f32⟩
  | 44 => ⟨S3x64, .f32⟩
  | 45 => ⟨S3x256x96x96, .f32⟩
  | 46 => ⟨S256x3x96x96, .f32⟩
  | 47 => ⟨S256x3x96x96, .f32⟩
  | 48 => ⟨S256x64x96x96, .f32⟩
  | 49 => ⟨S3x64x1x1, .f32⟩
  | 50 => ⟨S3x64, .f32⟩
  | 51 => ⟨S3x256x96x96, .f32⟩
  | 52 => ⟨S256x3x96x96, .f32⟩
  | 53 => ⟨S256x3x96x96, .f32⟩
  | 54 => ⟨S256x64x96x96, .f32⟩
  | 55 => ⟨S3x64x1x1, .f32⟩
  | 56 => ⟨S3x64, .f32⟩
  | 57 => ⟨S3x256x96x96, .f32⟩
  | 58 => ⟨S256x3x96x96, .f32⟩
  | 59 => ⟨S256x3x96x96, .f32⟩
  | 60 => ⟨S256x64x96x96, .f32⟩
  | 61 => ⟨S3x64x1x1, .f32⟩
  | 62 => ⟨S3x64, .f32⟩
  | 63 => ⟨S3x256x96x96, .f32⟩
  | 64 => ⟨S256x3x96x96, .f32⟩
  | 65 => ⟨S256x3x96x96, .f32⟩
  | 66 => ⟨S256x64x96x96, .f32⟩
  | 67 => ⟨S3x64x1x1, .f32⟩
  | 68 => ⟨S3x64, .f32⟩
  | 69 => ⟨S3x256x96x96, .f32⟩
  | 70 => ⟨S256x3x96x96, .f32⟩
  | 71 => ⟨S256x3x96x96, .f32⟩
  | 72 => ⟨S256x64x96x96, .f32⟩
  | 73 => ⟨S3x64x1x1, .f32⟩
  | 74 => ⟨S3x64, .f32⟩
  | 75 => ⟨S3x256x96x96, .f32⟩
  | 76 => ⟨S256x3x96x96, .f32⟩
  | 77 => ⟨S256x3x96x96, .f32⟩
  | 78 => ⟨S256x64x96x96, .f32⟩
  | 79 => ⟨S3x64x1x1, .f32⟩
  | 80 => ⟨S3x64, .f32⟩
  | 81 => ⟨S3x256x96x96, .f32⟩
  | 82 => ⟨S256x3x96x96, .f32⟩
  | 83 => ⟨S256x3x96x96, .f32⟩
  | 84 => ⟨S256x64x96x96, .f32⟩
  | 85 => ⟨S3x64x1x1, .f32⟩
  | 86 => ⟨S3x64, .f32⟩
  | 87 => ⟨S3x256x96x96, .f32⟩
  | 88 => ⟨S256x3x96x96, .f32⟩
  | 89 => ⟨S256x3x96x96, .f32⟩
  | 90 => ⟨S256x64x96x96, .f32⟩
  | 91 => ⟨S3x64x1x1, .f32⟩
  | 92 => ⟨S3x64, .f32⟩
  | 93 => ⟨S3x256x96x96, .f32⟩
  | 94 => ⟨S256x3x96x96, .f32⟩
  | 95 => ⟨S256x3x96x96, .f32⟩
  | 96 => ⟨S256x64x96x96, .f32⟩
  | 97 => ⟨S3x64x1x1, .f32⟩
  | 98 => ⟨S3x64, .f32⟩
  | 99 => ⟨S3x256x96x96, .f32⟩
  | 100 => ⟨S256x3x96x96, .f32⟩
  | 101 => ⟨S256x3x96x96, .f32⟩
  | 102 => ⟨S256x64x96x96, .f32⟩
  | 103 => ⟨S3x64x1x1, .f32⟩
  | 104 => ⟨S3x64, .f32⟩
  | 105 => ⟨S3x256x96x96, .f32⟩
  | 106 => ⟨S256x3x96x96, .f32⟩
  | 107 => ⟨S256x3x96x96, .f32⟩
  | 108 => ⟨S1x3x1x1, .f32⟩
  | 109 => ⟨S256x3x96x96, .f32⟩
  | 110 => ⟨S256x3x96x96, .f32⟩
  | 111 => ⟨S256x3x96x96, .f32⟩
  | 112 => ⟨S8x32x3x96x96, .f32⟩
  | _ => ⟨S8x3x96x96, .f32⟩

abbrev hbmTy (i : Nat) : BufTy := match i / 128 with
  | 0 => hbmTy0_0 i
  | 1 => hbmTy0_1 i
  | 2 => hbmTy0_2 i
  | 3 => hbmTy0_3 i
  | _ => ⟨S8x3x96x96, .f32⟩

abbrev bufTy : (tb : Table) → Fin (tcTables nBuf tb) → BufTy
  | .hbm, ⟨i, _⟩ => hbmTy i
  | _, _ => ⟨S8x3x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_call2_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_call3_cst : Ref sig .tc := ⟨.hbm, 181, rfl⟩
abbrev main_call3_v0 : Ref sig .tc := ⟨.hbm, 182, rfl⟩
abbrev main_v150 : Ref sig .tc := ⟨.hbm, 183, rfl⟩
abbrev main_c_14 : Ref sig .tc := ⟨.hbm, 184, rfl⟩
abbrev main_call4_v0 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_call5_cst : Ref sig .tc := ⟨.hbm, 285, rfl⟩
abbrev main_call5_v0 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_cst_15 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_v345 : Ref sig .tc := ⟨.hbm, 383, rfl⟩
abbrev main_v346 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_call7_cst : Ref sig .tc := ⟨.hbm, 390, rfl⟩
abbrev main_call7_v0 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩
abbrev main_cst_16 : Ref sig .tc := ⟨.hbm, 395, rfl⟩
abbrev main_v355 : Ref sig .tc := ⟨.hbm, 396, rfl⟩
abbrev main_v356 : Ref sig .tc := ⟨.hbm, 397, rfl⟩
abbrev main_v357 : Ref sig .tc := ⟨.hbm, 398, rfl⟩
abbrev main_v358 : Ref sig .tc := ⟨.hbm, 399, rfl⟩
abbrev main_v359 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_v363 : Ref sig .tc := ⟨.hbm, 404, rfl⟩
abbrev main_v364 : Ref sig .tc := ⟨.hbm, 405, rfl⟩
abbrev main_v365 : Ref sig .tc := ⟨.hbm, 406, rfl⟩
abbrev main_v366 : Ref sig .tc := ⟨.hbm, 407, rfl⟩
abbrev main_v367 : Ref sig .tc := ⟨.hbm, 408, rfl⟩
abbrev main_v368 : Ref sig .tc := ⟨.hbm, 409, rfl⟩
abbrev main_v369 : Ref sig .tc := ⟨.hbm, 410, rfl⟩
abbrev main_v370 : Ref sig .tc := ⟨.hbm, 411, rfl⟩
abbrev main_v371 : Ref sig .tc := ⟨.hbm, 412, rfl⟩
abbrev main_v372 : Ref sig .tc := ⟨.hbm, 413, rfl⟩
abbrev main_v373 : Ref sig .tc := ⟨.hbm, 414, rfl⟩
abbrev main_v374 : Ref sig .tc := ⟨.hbm, 415, rfl⟩
abbrev main_v375 : Ref sig .tc := ⟨.hbm, 416, rfl⟩
abbrev main_v376 : Ref sig .tc := ⟨.hbm, 417, rfl⟩
abbrev main_v377 : Ref sig .tc := ⟨.hbm, 418, rfl⟩
abbrev main_v378 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_v382 : Ref sig .tc := ⟨.hbm, 423, rfl⟩
abbrev main_v383 : Ref sig .tc := ⟨.hbm, 424, rfl⟩
abbrev main_v384 : Ref sig .tc := ⟨.hbm, 425, rfl⟩
abbrev main_v385 : Ref sig .tc := ⟨.hbm, 426, rfl⟩
abbrev main_v386 : Ref sig .tc := ⟨.hbm, 427, rfl⟩
abbrev main_v387 : Ref sig .tc := ⟨.hbm, 428, rfl⟩
abbrev main_v388 : Ref sig .tc := ⟨.hbm, 429, rfl⟩
abbrev main_v389 : Ref sig .tc := ⟨.hbm, 430, rfl⟩
abbrev main_v390 : Ref sig .tc := ⟨.hbm, 431, rfl⟩
abbrev main_v391 : Ref sig .tc := ⟨.hbm, 432, rfl⟩
abbrev main_v392 : Ref sig .tc := ⟨.hbm, 433, rfl⟩
abbrev main_v393 : Ref sig .tc := ⟨.hbm, 434, rfl⟩
abbrev main_v394 : Ref sig .tc := ⟨.hbm, 435, rfl⟩
abbrev main_v395 : Ref sig .tc := ⟨.hbm, 436, rfl⟩
abbrev main_v396 : Ref sig .tc := ⟨.hbm, 437, rfl⟩
abbrev main_v397 : Ref sig .tc := ⟨.hbm, 438, rfl⟩
abbrev main_v398 : Ref sig .tc := ⟨.hbm, 439, rfl⟩
abbrev main_v399 : Ref sig .tc := ⟨.hbm, 440, rfl⟩
abbrev main_v400 : Ref sig .tc := ⟨.hbm, 441, rfl⟩
abbrev main_v401 : Ref sig .tc := ⟨.hbm, 442, rfl⟩
abbrev main_v402 : Ref sig .tc := ⟨.hbm, 443, rfl⟩
abbrev main_v403 : Ref sig .tc := ⟨.hbm, 444, rfl⟩
abbrev main_v404 : Ref sig .tc := ⟨.hbm, 445, rfl⟩
abbrev main_v405 : Ref sig .tc := ⟨.hbm, 446, rfl⟩
abbrev main_v406 : Ref sig .tc := ⟨.hbm, 447, rfl⟩
abbrev main_v407 : Ref sig .tc := ⟨.hbm, 448, rfl⟩
abbrev main_v408 : Ref sig .tc := ⟨.hbm, 449, rfl⟩
abbrev main_v409 : Ref sig .tc := ⟨.hbm, 450, rfl⟩
abbrev main_v410 : Ref sig .tc := ⟨.hbm, 451, rfl⟩
abbrev main_v411 : Ref sig .tc := ⟨.hbm, 452, rfl⟩
abbrev main_v412 : Ref sig .tc := ⟨.hbm, 453, rfl⟩
abbrev main_v413 : Ref sig .tc := ⟨.hbm, 454, rfl⟩
abbrev main_v414 : Ref sig .tc := ⟨.hbm, 455, rfl⟩
abbrev main_v415 : Ref sig .tc := ⟨.hbm, 456, rfl⟩
abbrev main_v416 : Ref sig .tc := ⟨.hbm, 457, rfl⟩
abbrev main_v417 : Ref sig .tc := ⟨.hbm, 458, rfl⟩
abbrev main_v418 : Ref sig .tc := ⟨.hbm, 459, rfl⟩
abbrev main_v419 : Ref sig .tc := ⟨.hbm, 460, rfl⟩
abbrev main_v420 : Ref sig .tc := ⟨.hbm, 461, rfl⟩
abbrev main_v421 : Ref sig .tc := ⟨.hbm, 462, rfl⟩
abbrev main_v422 : Ref sig .tc := ⟨.hbm, 463, rfl⟩
abbrev main_v423 : Ref sig .tc := ⟨.hbm, 464, rfl⟩
abbrev main_v424 : Ref sig .tc := ⟨.hbm, 465, rfl⟩
abbrev main_v425 : Ref sig .tc := ⟨.hbm, 466, rfl⟩
abbrev main_v426 : Ref sig .tc := ⟨.hbm, 467, rfl⟩
abbrev main_v427 : Ref sig .tc := ⟨.hbm, 468, rfl⟩
abbrev main_v428 : Ref sig .tc := ⟨.hbm, 469, rfl⟩
abbrev main_v429 : Ref sig .tc := ⟨.hbm, 470, rfl⟩
abbrev main_v430 : Ref sig .tc := ⟨.hbm, 471, rfl⟩
abbrev main_v431 : Ref sig .tc := ⟨.hbm, 472, rfl⟩
abbrev main_v432 : Ref sig .tc := ⟨.hbm, 473, rfl⟩
abbrev main_v433 : Ref sig .tc := ⟨.hbm, 474, rfl⟩
abbrev main_v434 : Ref sig .tc := ⟨.hbm, 475, rfl⟩
abbrev main_v435 : Ref sig .tc := ⟨.hbm, 476, rfl⟩
abbrev main_v436 : Ref sig .tc := ⟨.hbm, 477, rfl⟩
abbrev main_v437 : Ref sig .tc := ⟨.hbm, 478, rfl⟩
abbrev main_v438 : Ref sig .tc := ⟨.hbm, 479, rfl⟩
abbrev main_v439 : Ref sig .tc := ⟨.hbm, 480, rfl⟩
abbrev main_v440 : Ref sig .tc := ⟨.hbm, 481, rfl⟩
abbrev main_v441 : Ref sig .tc := ⟨.hbm, 482, rfl⟩
abbrev main_v442 : Ref sig .tc := ⟨.hbm, 483, rfl⟩
abbrev main_v443 : Ref sig .tc := ⟨.hbm, 484, rfl⟩
abbrev main_v444 : Ref sig .tc := ⟨.hbm, 485, rfl⟩
abbrev main_v445 : Ref sig .tc := ⟨.hbm, 486, rfl⟩
abbrev main_v446 : Ref sig .tc := ⟨.hbm, 487, rfl⟩
abbrev main_v447 : Ref sig .tc := ⟨.hbm, 488, rfl⟩
abbrev main_v448 : Ref sig .tc := ⟨.hbm, 489, rfl⟩
abbrev main_v449 : Ref sig .tc := ⟨.hbm, 490, rfl⟩
abbrev main_v450 : Ref sig .tc := ⟨.hbm, 491, rfl⟩
abbrev main_v451 : Ref sig .tc := ⟨.hbm, 492, rfl⟩
abbrev main_v452 : Ref sig .tc := ⟨.hbm, 493, rfl⟩
abbrev main_v453 : Ref sig .tc := ⟨.hbm, 494, rfl⟩
abbrev main_v454 : Ref sig .tc := ⟨.hbm, 495, rfl⟩
abbrev main_v455 : Ref sig .tc := ⟨.hbm, 496, rfl⟩

abbrev nD : Nat := 1
abbrev τ : Topo := Topo.v7x

variable {F : FTy → Type} [FloatOps F]
-- ==== Proof.Net.lean ====
/-
  The network's layers as plain mathematics: feature maps are functions of a channel, a row and a column with values in the
  extended reals; a layer is one formula. Both programs are later shown to compute these formulas.
-/
module

public import Idealize.ShloMosaic.Lib.Pointwise

@[expose] public section

noncomputable section

namespace Cert.Net

open Idealize.ShloMosaic

/-- A stack of `C` feature maps of `H` rows and `W` columns. -/
abbrev Maps (C H W : ℕ) : Type := Fin C → Fin H → Fin W → EReal

/-- One map surrounded by a ring of zeros, read at row `a` and column `b` of the enlarged map. -/
def padAt {H W : ℕ} (x : Fin H → Fin W → EReal) (a b : ℕ) : EReal :=
  if h : (1 ≤ a ∧ a ≤ H) ∧ (1 ≤ b ∧ b ≤ W) then x ⟨a - 1, by omega⟩ ⟨b - 1, by omega⟩ else 0

/-- The row of tap `t` of a 4 × 4 window. -/
def tapRow (t : Fin 16) : Fin 4 := ⟨t.val / 4, by omega⟩

/-- The column of tap `t` of a 4 × 4 window. -/
def tapCol (t : Fin 16) : Fin 4 := ⟨t.val % 4, by omega⟩

/-- A 4 × 4 convolution of stride 2 over maps padded by one ring of zeros, with a bias. -/
def conv {C O H W : ℕ} (H' W' : ℕ) (x : Maps C H W) (w : Fin O → Fin C → Fin 4 → Fin 4 → EReal) (b : Fin O → EReal) :
    Maps O H' W' := fun o i j =>
  (∑ t : Fin 16, ∑ c : Fin C, padAt (x c) (2 * i.val + t.val / 4) (2 * j.val + t.val % 4) * w o c (tapRow t) (tapCol t)) + b o

/-- The weight's index met by an output of parity `r` at tap `d` (0 or 1) of its two-tap window, along one axis. -/
def flipTap (r : ℕ) (d : ℕ) : Fin 4 := ⟨3 - r - 2 * d, by omega⟩

/-- A 4 × 4 transposed convolution of stride 2 with a bias: an output pixel sees a 2 × 2 window of the padded maps, and the
    weights its row's and column's parities select. -/
def deconv {C O H W : ℕ} (H' W' : ℕ) (x : Maps C H W) (w : Fin C → Fin O → Fin 4 → Fin 4 → EReal) (b : Fin O → EReal) :
    Maps O H' W' := fun o y z =>
  (∑ s : Fin 4, ∑ c : Fin C, padAt (x c) (y.val / 2 + y.val % 2 + s.val / 2) (z.val / 2 + z.val % 2 + s.val % 2)
    * w c o (flipTap (y.val % 2) (s.val / 2)) (flipTap (z.val % 2) (s.val % 2))) + b o

/-- The positive part of every entry. -/
def relu {C H W : ℕ} (x : Maps C H W) : Maps C H W := fun c i j => max (x c i j) 0

/-- The word of a landmark's coordinate: 95 times the coordinate, cut to an integer. -/
def word (v : EReal) : BitVec 32 := Ideal.fptosi 32 (v * Ideal.ofBits .f32 0x42BE0000#32)

/-- The landmark map: one where some landmark's row word and column word name the pixel, zero elsewhere. -/
def heat (yw xw : Fin 68 → BitVec 32) (y x : Fin 96) : EReal :=
  if ∃ l, yw l = BitVec.ofNat 32 y.val ∧ xw l = BitVec.ofNat 32 x.val then 1 else 0

/-- The network's input: three colour maps and the landmark map. -/
def inputMaps (img : Maps 3 96 96) (yw xw : Fin 68 → BitVec 32) : Maps 4 96 96 := fun c y x =>
  if h : c.val < 3 then img ⟨c.val, h⟩ y x else heat yw xw y x

/-- The word of frame `n`'s landmark `l`: column (`k = 0`) or row (`k = 1`). -/
def lmWord (x1 : FVec Ideal ⟨3, ![8, 32, 136]⟩ .f32) (n : Fin 256) (l : Fin 68) (k : Fin 2) : BitVec 32 :=
  word (x1 (ix3 ⟨n.val / 32, by omega⟩ ⟨n.val % 32, by omega⟩ ⟨l.val * 2 + k.val, by omega⟩))

/-- The whole network on frame `n`: the frame's image (one per 32 frames) and landmark map through two convolutions and two
    transposed convolutions, positive parts between them, and the hyperbolic tangent. -/
def network (x0 : FVec Ideal ⟨4, ![8, 3, 96, 96]⟩ .f32) (x1 : FVec Ideal ⟨3, ![8, 32, 136]⟩ .f32) (x2 : FVec Ideal ⟨4, ![64, 4, 4, 4]⟩ .f32)
    (x3 : FVec Ideal ⟨1, ![64]⟩ .f32) (x4 : FVec Ideal ⟨4, ![128, 64, 4, 4]⟩ .f32) (x5 : FVec Ideal ⟨1, ![128]⟩ .f32)
    (x6 : FVec Ideal ⟨4, ![128, 64, 4, 4]⟩ .f32) (x7 : FVec Ideal ⟨1, ![64]⟩ .f32) (x8 : FVec Ideal ⟨4, ![64, 3, 4, 4]⟩ .f32)
    (x9 : FVec Ideal ⟨1, ![3]⟩ .f32) (n : Fin 256) : Maps 3 96 96 :=
  have m0 : Maps 4 96 96 := inputMaps (fun c y x => x0 (ix4 ⟨n.val / 32, by omega⟩ c y x)) (fun l => lmWord x1 n l 1) (fun l => lmWord x1 n l 0)
  have m1 : Maps 64 48 48 := relu (conv 48 48 m0 (fun o c a b => x2 (ix4 o c a b)) (fun o => x3 (ix1 o)))
  have m2 : Maps 128 24 24 := relu (conv 24 24 m1 (fun o c a b => x4 (ix4 o c a b)) (fun o => x5 (ix1 o)))
  have m3 : Maps 64 48 48 := relu (deconv 48 48 m2 (fun c o a b => x6 (ix4 c o a b)) (fun o => x7 (ix1 o)))
  fun o y v => Ideal.tanh (deconv 96 96 m3 (fun c o a b => x8 (ix4 c o a b)) (fun o => x9 (ix1 o)) o y v)

/-- The network's results for all frames, as the rank-five array both programs return: frame `s·32 + t` at `(s, t)`. -/
def networkOut (x0 : FVec Ideal ⟨4, ![8, 3, 96, 96]⟩ .f32) (x1 : FVec Ideal ⟨3, ![8, 32, 136]⟩ .f32) (x2 : FVec Ideal ⟨4, ![64, 4, 4, 4]⟩ .f32)
    (x3 : FVec Ideal ⟨1, ![64]⟩ .f32) (x4 : FVec Ideal ⟨4, ![128, 64, 4, 4]⟩ .f32) (x5 : FVec Ideal ⟨1, ![128]⟩ .f32)
    (x6 : FVec Ideal ⟨4, ![128, 64, 4, 4]⟩ .f32) (x7 : FVec Ideal ⟨1, ![64]⟩ .f32) (x8 : FVec Ideal ⟨4, ![64, 3, 4, 4]⟩ .f32)
    (x9 : FVec Ideal ⟨1, ![3]⟩ .f32) : FVec Ideal ⟨5, ![8, 32, 3, 96, 96]⟩ .f32 := fun i =>
  have s : Fin 8 := i 0
  have t : Fin 32 := i 1
  network x0 x1 x2 x3 x4 x5 x6 x7 x8 x9 ⟨s.val * 32 + t.val, by omega⟩ (i 2) (i 3) (i 4)

/-- The results at `(s, t, o, y, v)`: frame `32·s + t`'s channel `o` at pixel `(y, v)`. -/
theorem networkOut_apply (x0 : FVec Ideal ⟨4, ![8, 3, 96, 96]⟩ .f32) (x1 : FVec Ideal ⟨3, ![8, 32, 136]⟩ .f32) (x2 : FVec Ideal ⟨4, ![64, 4, 4, 4]⟩ .f32)
    (x3 : FVec Ideal ⟨1, ![64]⟩ .f32) (x4 : FVec Ideal ⟨4, ![128, 64, 4, 4]⟩ .f32) (x5 : FVec Ideal ⟨1, ![128]⟩ .f32)
    (x6 : FVec Ideal ⟨4, ![128, 64, 4, 4]⟩ .f32) (x7 : FVec Ideal ⟨1, ![64]⟩ .f32) (x8 : FVec Ideal ⟨4, ![64, 3, 4, 4]⟩ .f32)
    (x9 : FVec Ideal ⟨1, ![3]⟩ .f32) (s : Fin 8) (t : Fin 32) (o : Fin 3) (y v : Fin 96) :
    networkOut x0 x1 x2 x3 x4 x5 x6 x7 x8 x9 (ix5 s t o y v) = network x0 x1 x2 x3 x4 x5 x6 x7 x8 x9 ⟨s.val * 32 + t.val, by omega⟩ o y v := rfl

/-- A sum over `n = N·K` positions is a sum over `N` blocks of `K`. -/
theorem sum_blocks {M : Type} [AddCommMonoid M] (N K n : ℕ) (h : n = N * K) (f : Fin n → M) :
    ∑ q, f q = ∑ t : Fin N, ∑ c : Fin K, f ⟨K * t.val + c.val, by
      subst h; have := t.isLt; have := c.isLt
      calc K * t.val + c.val < K * t.val + K := by omega
        _ = K * (t.val + 1) := by ring
        _ ≤ K * N := Nat.mul_le_mul_left _ (by omega)
        _ = N * K := Nat.mul_comm _ _⟩ := by
  subst h
  rw [← finProdFinEquiv.sum_comp, Fintype.sum_prod_type]
  refine Finset.sum_congr rfl fun t _ => Finset.sum_congr rfl fun c _ => congrArg f (Fin.ext ?_)
  show c.val + K * t.val = K * t.val + c.val
  omega

end Cert.Net
-- ==== Proof.Heat.lean ====
/-
  The kernel's landmark map: a product of two 0/1 matrices counts the landmarks on each pixel; the map is one where the count
  is positive.
-/
module

public import proofs.«01_k».proof.Proof.Gen.KernelIdeal.Skeleton
public import proofs.«01_k».proof.Proof.Net

@[expose] public section

set_option maxRecDepth 16384

noncomputable section

namespace Cert.Net

open Idealize.ShloMosaic

/-- The test whether a landmark's row word and column word both lie in 0 … 95. -/
def onMap (yw xw : BitVec 32) : BitVec 1 :=
  IntOp.andi (IntOp.andi (IntOp.andi (IntOp.cmpi .sge yw 0#32) (IntOp.cmpi .slt yw 96#32)) (IntOp.cmpi .sge xw 0#32)) (IntOp.cmpi .slt xw 96#32)

/-- A pixel coordinate is at least 0, as a word. -/
theorem sge_small : ∀ y : Fin 96, IntOp.cmpi .sge (BitVec.ofNat 32 y.val) 0#32 = 1#1 := by decide

/-- A pixel coordinate is below 96, as a word. -/
theorem slt_small : ∀ y : Fin 96, IntOp.cmpi .slt (BitVec.ofNat 32 y.val) 96#32 = 1#1 := by decide

/-- No pixel coordinate is the word of −1. -/
theorem minus_one_ne : ∀ y : Fin 96, BitVec.ofNat 32 y.val ≠ 4294967295#32 := by decide

/-- Words of pixels pass the test. -/
theorem onMap_small (y x : Fin 96) : onMap (BitVec.ofNat 32 y.val) (BitVec.ofNat 32 x.val) = 1#1 := by
  unfold onMap
  rw [sge_small, sge_small, slt_small, slt_small]
  rfl

/-- A test bit as a number. -/
def bitNum (b : BitVec 1) : EReal := (((b.setWidth 32).toInt : ℝ) : EReal)

/-- A set bit counts 1. -/
theorem bitNum_one : bitNum 1#1 = 1 := by
  simp [bitNum]

/-- A clear bit counts 0. -/
theorem bitNum_zero : bitNum 0#1 = 0 := by
  simp [bitNum]

/-- Comparing a pixel's coordinate with a word that falls back to -1. -/
theorem cmpi_eq_select (y : Fin 96) (b : BitVec 1) (w : BitVec 32) :
    IntOp.cmpi .eq (BitVec.ofNat 32 y.val) (Scalar.select b w 4294967295#32) = if b = 1#1 ∧ w = BitVec.ofNat 32 y.val then 1#1 else 0#1 := by
  unfold IntOp.cmpi Scalar.select
  have h1 := minus_one_ne y
  by_cases hb : b = 1#1
  · by_cases hw : w = BitVec.ofNat 32 y.val
    · simp [hb, hw]
    · have : (BitVec.ofNat 32 y.val == w) = false := by simpa using fun h => hw h.symm
      simp [hb, hw, this]
  · have : (BitVec.ofNat 32 y.val == 4294967295#32) = false := by simpa using h1
    have hb' : ¬ b = 1 := hb
    simp only [if_neg hb', this, hb, false_and, if_false]
    rfl

/-- One landmark's factor pair: one if the landmark is on the pixel, else zero. -/
theorem hit_num (y x : Fin 96) (yw xw : BitVec 32) :
    bitNum (IntOp.cmpi .eq (BitVec.ofNat 32 y.val) (Scalar.select (onMap yw xw) yw 4294967295#32))
      * bitNum (IntOp.cmpi .eq (BitVec.ofNat 32 x.val) (Scalar.select (onMap yw xw) xw 4294967295#32))
      = if yw = BitVec.ofNat 32 y.val ∧ xw = BitVec.ofNat 32 x.val then 1 else 0 := by
  rw [cmpi_eq_select, cmpi_eq_select]
  by_cases h : yw = BitVec.ofNat 32 y.val ∧ xw = BitVec.ofNat 32 x.val
  · rw [if_pos h, h.1, h.2, onMap_small, if_pos ⟨rfl, rfl⟩, if_pos ⟨rfl, rfl⟩, bitNum_one, one_mul]
  · rw [if_neg h]
    by_cases h1 : onMap yw xw = 1#1 ∧ yw = BitVec.ofNat 32 y.val
    · rw [if_neg (c := onMap yw xw = 1#1 ∧ xw = _) fun h2 => h ⟨h1.2, h2.2⟩, bitNum_zero, mul_zero]
    · rw [if_neg h1, bitNum_zero, zero_mul]

/-- A count of zeros and ones is positive exactly if some term is one. -/
theorem count_pos {n : ℕ} (P : Fin n → Prop) [DecidablePred P] : (0 : EReal) < ∑ l, (if P l then 1 else 0) ↔ ∃ l, P l := by
  constructor
  · intro h
    by_contra hn
    rw [Finset.sum_eq_zero fun l _ => if_neg fun hl => hn ⟨l, hl⟩] at h
    exact lt_irrefl _ h
  · rintro ⟨l, hl⟩
    have h1 : (if P l then (1 : EReal) else 0) ≤ ∑ l, (if P l then (1 : EReal) else 0) :=
      Finset.single_le_sum (f := fun l => if P l then (1 : EReal) else 0) (fun i _ => by split_ifs <;> norm_num) (Finset.mem_univ l)
    rw [if_pos hl] at h1
    exact lt_of_lt_of_le zero_lt_one h1

end Cert.Net

namespace Cert.KernelIdeal.Val

open Idealize.ShloMosaic Idealize.SL.Sem Cert.KernelIdeal.Gen Cert.Net

/-- The kernel's input maps: the image block's colours and the landmark map of the landmark block's words. -/
theorem k0_pay2_apply (v0 : Vec Ideal S1x2x68 .f32) (v37 : Vec Ideal S1x3x96x96 .f32) (y x : Fin 96) (c : Fin 4) :
    k0_pay2 v0 v37 (ix3 y x c) = inputMaps (fun c y x => v37 (ix4 0 c y x)) (fun l => word (v0 (ix3 0 1 l))) (fun l => word (v0 (ix3 0 0 l))) c y x := by
  unfold k0_pay2 inputMaps
  pointwise
  refine dite_congr rfl (fun _ => rfl) fun _ => ?_
  have key : ∀ l : Fin 68, _ := fun l => hit_num y x (word (v0 (ix3 0 1 l))) (word (v0 (ix3 0 0 l)))
  refine (congrArg (fun s : EReal => bitNum (BitVec.ofBool (decide ((0 : EReal) < s)))) (Finset.sum_congr rfl fun l _ => key l)).trans ?_
  unfold heat
  by_cases h : ∃ l, word (v0 (ix3 0 1 l)) = BitVec.ofNat 32 y.val ∧ word (v0 (ix3 0 0 l)) = BitVec.ofNat 32 x.val
  · rw [if_pos h]
    have := (count_pos fun l => word (v0 (ix3 0 1 l)) = BitVec.ofNat 32 y.val ∧ word (v0 (ix3 0 0 l)) = BitVec.ofNat 32 x.val).2 h
    rw [decide_eq_true this]
    exact bitNum_one
  · rw [if_neg h]
    have := fun hp => h ((count_pos fun l => word (v0 (ix3 0 1 l)) = BitVec.ofNat 32 y.val ∧ word (v0 (ix3 0 0 l)) = BitVec.ofNat 32 x.val).1 hp)
    rw [decide_eq_false this]
    exact bitNum_zero

end Cert.KernelIdeal.Val
-- ==== Proof.RefHeat.lean ====
/-
  The reference's input maps: the image repeated for its 32 frames, and the landmark map, a scatter of ones at the landmarks'
  pixels. Landmarks lie in [0, 1], so every index word is a pixel's coordinate.
-/
module

public import proofs.«01_k».proof.Proof.Gen.ReferenceIdeal.Read
public import proofs.«01_k».proof.Proof.Heat
public import Idealize.ShloMosaic.Lib.Routing.OpsSet

@[expose] public section

set_option maxRecDepth 16384

noncomputable section

namespace Cert.Net

open Idealize.ShloMosaic

/-- The scale of a coordinate is 95. -/
theorem coord_scale : Ideal.ofBits .f32 0x42BE0000#32 = ((95 : ℝ) : EReal) := by
  simp [Ideal.ofBits, Ideal.ieee, -EReal.coe_mul]; norm_num

/-- A coordinate in [0, 1] has the word of a pixel's coordinate. -/
theorem word_small (v : EReal) (h0 : 0 ≤ v) (h1 : v ≤ 1) : ∃ k : Fin 96, word v = BitVec.ofNat 32 k.val := by
  induction v using EReal.rec with
  | bot => exact absurd h0 (by simp)
  | top => exact absurd h1 (by simpa using EReal.coe_ne_top 1)
  | coe r =>
    have h0 : 0 ≤ r := by exact_mod_cast h0
    have h1 : r ≤ 1 := by exact_mod_cast h1
    have hp : 0 ≤ r * 95 := by positivity
    have hf0 : 0 ≤ ⌊r * 95⌋ := Int.floor_nonneg.2 hp
    have hf1 : ⌊r * 95⌋ < 96 := Int.floor_lt.2 (by push_cast; linarith)
    refine ⟨⟨⌊r * 95⌋.toNat, by omega⟩, ?_⟩
    unfold word Ideal.fptosi
    rw [coord_scale, ← EReal.coe_mul, Ideal.toIntClamped_coe, if_pos hp, min_eq_right (by norm_num; omega), max_eq_right (by norm_num; omega)]
    conv_lhs => rw [← Int.toNat_of_nonneg hf0]
    exact BitVec.ofInt_natCast ..

/-- A frame's number is not negative, so the scatter's wrap-around leaves it. -/
theorem wrap_frame : ∀ n : Fin 256, Scalar.select (IntOp.cmpi .slt (BitVec.ofNat 32 n.val) 0#32) (BitVec.ofNat 32 n.val + 256#32) (BitVec.ofNat 32 n.val)
    = BitVec.ofNat 32 n.val := by decide

/-- A pixel coordinate is not negative, so the scatter's wrap-around leaves it. -/
theorem wrap_pixel : ∀ n : Fin 96, Scalar.select (IntOp.cmpi .slt (BitVec.ofNat 32 n.val) 0#32) (BitVec.ofNat 32 n.val + 96#32) (BitVec.ofNat 32 n.val)
    = BitVec.ofNat 32 n.val := by decide

/-- A frame's word read as a signed integer. -/
theorem frame_toInt : ∀ n : Fin 256, (BitVec.ofNat 32 n.val).toInt = (n.val : ℤ) := by decide

/-- A pixel coordinate's word read as a signed integer. -/
theorem pixel_toInt : ∀ n : Fin 96, (BitVec.ofNat 32 n.val).toInt = (n.val : ℤ) := by decide

end Cert.Net

namespace Cert.ReferenceIdeal.Val

open Idealize.ShloMosaic Idealize.SL.Sem Cert.ReferenceIdeal Cert.ReferenceIdeal.Gen Cert.Net

/-- Where update `(n, l)` lands: at the pixel its three index words name. -/
theorem lands (idx : IVec S256x68x3 32) (n : Fin 256) (l : Fin 68) (m : Fin 256) (y x : Fin 96) :
    scatter_S256x96x96_S256x68x3_S256x68_n_012_012_2.resultIdx? (ix2 n l) idx = some (ix3 m y x)
      ↔ (idx (ix3 n l 0)).toInt = m.val ∧ (idx (ix3 n l 1)).toInt = y.val ∧ (idx (ix3 n l 2)).toInt = x.val := by
  have hw : ∀ q : Fin 3, scatter_S256x96x96_S256x68x3_S256x68_n_012_012_2.window (ix2 n l) q = 0 := fun q => by
    fin_cases q <;> rfl
  have hs : ∀ q : Fin 3, scatter_S256x96x96_S256x68x3_S256x68_n_012_012_2.start (ix2 n l) idx q = (idx (ix3 n l q)).toInt := fun q => by
    unfold ScatterDims.start
    rw [dif_pos (by fin_cases q <;> decide)]
    refine congrArg (fun i => (idx i).toInt) (funext fun a => Fin.ext ?_)
    fin_cases q <;> fin_cases a <;> rfl
  rw [Routing.resultIdx?_eq_some]
  constructor
  · intro h
    have h0 := h (0 : Fin 3); have h1 := h (1 : Fin 3); have h2 := h (2 : Fin 3)
    rw [hs, hw] at h0 h1 h2
    exact ⟨by simpa using h0, by simpa using h1, by simpa using h2⟩
  · rintro ⟨h0, h1, h2⟩ a
    rw [hs a, hw a]
    fin_cases a
    · simpa using h0
    · simpa using h1
    · simpa using h2

/-- The word of landmark `l`'s coordinate `k` in frame `n`. -/
theorem v6_apply (x1 : FVec Ideal S8x32x136 .f32) (n : Fin 256) (l : Fin 68) (k : Fin 2) : Read.val_main_v6 (F := Ideal) x1 (ix3 n l k) = lmWord x1 n l k := by
  unfold Read.val_main_v6 Read.val_main_v5 Read.val_main_v4 Read.val_main_cst Read.val_main_v3 lmWord word
  pointwise
  rfl

/-- The word of landmark `l`'s column in frame `n`. -/
theorem v8_apply (x1 : FVec Ideal S8x32x136 .f32) (n : Fin 256) (l : Fin 68) : Read.val_main_v8 (F := Ideal) x1 (ix2 n l) = lmWord x1 n l 0 := by
  rw [← v6_apply]
  unfold Read.val_main_v8 Read.val_main_v7
  generalize Read.val_main_v6 (F := Ideal) x1 = w
  pointwise

/-- The word of landmark `l`'s row in frame `n`. -/
theorem v10_apply (x1 : FVec Ideal S8x32x136 .f32) (n : Fin 256) (l : Fin 68) : Read.val_main_v10 (F := Ideal) x1 (ix2 n l) = lmWord x1 n l 1 := by
  rw [← v6_apply]
  unfold Read.val_main_v10 Read.val_main_v9
  generalize Read.val_main_v6 (F := Ideal) x1 = w
  pointwise

/-- A landmark on the map passes the range test. -/
theorem v21_apply (x1 : FVec Ideal S8x32x136 .f32) (n : Fin 256) (l : Fin 68) (y x : Fin 96) (hx : lmWord x1 n l 0 = BitVec.ofNat 32 x.val)
    (hy : lmWord x1 n l 1 = BitVec.ofNat 32 y.val) : Read.val_main_v21 (F := Ideal) x1 (ix2 n l) = 1#1 := by
  unfold Read.val_main_v21 Read.val_main_v18 Read.val_main_v20 Read.val_main_v15 Read.val_main_v17 Read.val_main_v12 Read.val_main_v14 Read.val_main_v11
    Read.val_main_c Read.val_main_v13 Read.val_main_c_0 Read.val_main_v16 Read.val_main_c_1 Read.val_main_v19 Read.val_main_c_2
  pointwise
  rw [v10_apply, v8_apply, hx, hy]
  exact onMap_small y x

/-- Its row word passes the two selects unchanged. -/
theorem v37_apply (x1 : FVec Ideal S8x32x136 .f32) (n : Fin 256) (l : Fin 68) (y x : Fin 96) (hx : lmWord x1 n l 0 = BitVec.ofNat 32 x.val)
    (hy : lmWord x1 n l 1 = BitVec.ofNat 32 y.val) : Read.val_main_v37 (F := Ideal) x1 (ix2 n l) = BitVec.ofNat 32 y.val := by
  unfold Read.val_main_v37 Read.val_main_v34 Read.val_main_v36 Read.val_main_v33 Read.val_main_c_8 Read.val_main_v35 Read.val_main_c_9 Read.val_main_v22
  pointwise
  rw [v21_apply x1 n l y x hx hy, v10_apply, hy]
  exact wrap_pixel y

/-- Its column word passes the two selects unchanged. -/
theorem v42_apply (x1 : FVec Ideal S8x32x136 .f32) (n : Fin 256) (l : Fin 68) (y x : Fin 96) (hx : lmWord x1 n l 0 = BitVec.ofNat 32 x.val)
    (hy : lmWord x1 n l 1 = BitVec.ofNat 32 y.val) : Read.val_main_v42 (F := Ideal) x1 (ix2 n l) = BitVec.ofNat 32 x.val := by
  unfold Read.val_main_v42 Read.val_main_v39 Read.val_main_v41 Read.val_main_v38 Read.val_main_c_10 Read.val_main_v40 Read.val_main_c_11 Read.val_main_v23
  pointwise
  rw [v21_apply x1 n l y x hx hy, v8_apply, hx]
  exact wrap_pixel x

/-- The frame's number beside each landmark. -/
theorem v32_apply (n : Fin 256) (l : Fin 68) : Read.val_main_v32 (F := Ideal) (ix2 n l) = BitVec.ofNat 32 n.val := by
  unfold Read.val_main_v32 Read.val_main_v29 Read.val_main_v28 Read.val_main_c_6 Read.val_main_v31 Read.val_main_v30
    Read.val_main_c_7 Read.val_main_v26 Read.val_main_v25 Read.val_main_v24
  pointwise
  exact wrap_frame n

/-- The scatter's first index is the frame. -/
theorem v46_apply0 (x1 : FVec Ideal S8x32x136 .f32) (n : Fin 256) (l : Fin 68) :
    Read.val_main_v46 (F := Ideal) x1 (ix3 n l 0) = Read.val_main_v32 (F := Ideal) (ix2 n l) := by
  unfold Read.val_main_v46 Read.val_main_v43
  pointwise

/-- The scatter's second index is the landmark's row. -/
theorem v46_apply1 (x1 : FVec Ideal S8x32x136 .f32) (n : Fin 256) (l : Fin 68) :
    Read.val_main_v46 (F := Ideal) x1 (ix3 n l 1) = Read.val_main_v37 (F := Ideal) x1 (ix2 n l) := by
  unfold Read.val_main_v46 Read.val_main_v44
  pointwise

/-- The scatter's third index is the landmark's column. -/
theorem v46_apply2 (x1 : FVec Ideal S8x32x136 .f32) (n : Fin 256) (l : Fin 68) :
    Read.val_main_v46 (F := Ideal) x1 (ix3 n l 2) = Read.val_main_v42 (F := Ideal) x1 (ix2 n l) := by
  unfold Read.val_main_v46 Read.val_main_v45
  pointwise

/-- Every update writes 1. -/
theorem v47_apply (k : S256x68.Idx) : Read.val_main_v47 (F := Ideal) k = (1 : EReal) := by
  unfold Read.val_main_v47 Read.val_main_cst_12
  pointwise

/-- The heatmaps start at 0. -/
theorem v27_apply (k : S256x96x96.Idx) : Read.val_main_v27 (F := Ideal) k = (0 : EReal) := by
  unfold Read.val_main_v27 Read.val_main_cst_5
  pointwise

/-- Every landmark lies in [0, 1]. -/
def InRange (x1 : FVec Ideal S8x32x136 .f32) : Prop := ∀ i, (0 : EReal) ≤ x1 i ∧ x1 i ≤ (1 : EReal)

/-- Update `(n, l)` lands at pixel `(y, x)` of frame `m` exactly if `n = m` and the landmark's words are the pixel's. -/
theorem lands_pixel (x1 : FVec Ideal S8x32x136 .f32) (hr : InRange x1) (n : Fin 256) (l : Fin 68) (m : Fin 256) (y x : Fin 96) :
    scatter_S256x96x96_S256x68x3_S256x68_n_012_012_2.resultIdx? (ix2 n l) (Read.val_main_v46 (F := Ideal) x1) = some (ix3 m y x)
      ↔ n = m ∧ lmWord x1 n l 1 = BitVec.ofNat 32 y.val ∧ lmWord x1 n l 0 = BitVec.ofNat 32 x.val := by
  obtain ⟨kx, hx⟩ := word_small _ (hr (ix3 ⟨n.val / 32, by omega⟩ ⟨n.val % 32, by omega⟩ ⟨l.val * 2 + (0 : Fin 2).val, by simp only [Fin.val_zero]; omega⟩)).1 (hr _).2
  obtain ⟨ky, hy⟩ := word_small _ (hr (ix3 ⟨n.val / 32, by omega⟩ ⟨n.val % 32, by omega⟩ ⟨l.val * 2 + (1 : Fin 2).val, by simp only [Fin.val_one]; omega⟩)).1 (hr _).2
  have hx : lmWord x1 n l 0 = BitVec.ofNat 32 kx.val := hx
  have hy : lmWord x1 n l 1 = BitVec.ofNat 32 ky.val := hy
  rw [lands, v46_apply0, v46_apply1, v46_apply2, v32_apply, v37_apply x1 n l ky kx hx hy, v42_apply x1 n l ky kx hx hy, hx, hy, frame_toInt, pixel_toInt,
    pixel_toInt]
  constructor
  · rintro ⟨h1, h2, h3⟩
    have h1 : n.val = m.val := by exact_mod_cast h1
    have h2 : ky.val = y.val := by exact_mod_cast h2
    have h3 : kx.val = x.val := by exact_mod_cast h3
    exact ⟨Fin.ext h1, by rw [h2], by rw [h3]⟩
  · rintro ⟨h1, h2, h3⟩
    rw [← pixel_toInt y, ← pixel_toInt x, ← h2, ← h3, h1, pixel_toInt, pixel_toInt]
    exact ⟨rfl, rfl, rfl⟩

/-- The scatter is the landmark map. -/
theorem v48_apply (x1 : FVec Ideal S8x32x136 .f32) (hr : InRange x1) (n : Fin 256) (y x : Fin 96) :
    Read.val_main_v48 (F := Ideal) x1 (ix3 n y x) = heat (fun l => lmWord x1 n l 1) (fun l => lmWord x1 n l 0) y x := by
  unfold Read.val_main_v48 heat
  by_cases h : ∃ l, lmWord x1 n l 1 = BitVec.ofNat 32 y.val ∧ lmWord x1 n l 0 = BitVec.ofNat 32 x.val
  · rw [if_pos h]
    obtain ⟨l, hl⟩ := h
    exact Routing.scatter_set_hit _ _ _ _ _ _ (fun k _ => v47_apply k) (ix2 n l) ((lands_pixel x1 hr n l n y x).2 ⟨rfl, hl⟩)
  · rw [if_neg h]
    refine (Routing.scatter_set_miss _ _ _ _ _ fun k hk => ?_).trans (v27_apply _)
    obtain ⟨n', l, rfl⟩ : ∃ n' l, k = ix2 n' l := ⟨k 0, k 1, (ix2_eta k).symm⟩
    obtain ⟨rfl, hl⟩ := (lands_pixel x1 hr n' l n y x).1 hk
    exact h ⟨l, hl⟩

/-- Every frame sees the image of its sequence. -/
theorem v2_apply (x0 : FVec Ideal S8x3x96x96 .f32) (n : Fin 256) (c : Fin 3) (y x : Fin 96) :
    Read.val_main_v2 (F := Ideal) x0 (ix4 n c y x) = x0 (ix4 ⟨n.val / 32, by omega⟩ c y x) := by
  unfold Read.val_main_v2 Read.val_main_v1 Read.val_main_v0
  pointwise

/-- The reference's input maps: the image's colours and the landmark map. -/
theorem v50_apply (x0 : FVec Ideal S8x3x96x96 .f32) (x1 : FVec Ideal S8x32x136 .f32) (hr : InRange x1) (n : Fin 256) (c : Fin 4) (y x : Fin 96) :
    Read.val_main_v50 (F := Ideal) x0 x1 (ix4 n c y x)
      = inputMaps (fun c y x => x0 (ix4 ⟨n.val / 32, by omega⟩ c y x)) (fun l => lmWord x1 n l 1) (fun l => lmWord x1 n l 0) c y x := by
  unfold Read.val_main_v50 Read.val_main_v49 inputMaps
  pointwise
  refine dite_congr rfl (fun _ => v2_apply x0 n _ y x) fun _ => v48_apply x1 hr n y x

end Cert.ReferenceIdeal.Val
-- ==== Proof.Range.lean ====
/-
  The precondition read as inequalities: an argument that satisfies it has every landmark in [0, 1].
-/
module

public import proofs.«01_k».proof.Proof.RefHeat
public import proofs.«01_k».proof.Proof.Gen.Pre_landmarks_in_range

@[expose] public section

noncomputable section

namespace Cert.ReferenceIdeal.Val

open Idealize.ShloMosaic Cert.Pre_landmarks_in_range Cert.Net

/-- The precondition's array of ones says that every landmark lies in [0, 1]. -/
theorem inRange_of_pre (x0 : FVec Ideal S8x3x96x96 .f32) (x1 : FVec Ideal S8x32x136 .f32) (x2 : FVec Ideal S64x4x4x4 .f32)
    (x3 : FVec Ideal S64 .f32) (x4 : FVec Ideal S128x64x4x4 .f32) (x5 : FVec Ideal S128 .f32) (x6 : FVec Ideal S128x64x4x4 .f32)
    (x7 : FVec Ideal S64 .f32) (x8 : FVec Ideal S64x3x4x4 .f32) (x9 : FVec Ideal S3 .f32)
    (h : Cert.Pre_landmarks_in_range.fn (F := Ideal) x0 x1 x2 x3 x4 x5 x6 x7 x8 x9 = fun _ => 1#1) : InRange x1 := by
  intro i
  have e := congrFun h i
  obtain ⟨s, t, k, rfl⟩ : ∃ s t k, i = ix3 s t k := ⟨_, _, _, eq_ix3 i⟩
  unfold Cert.Pre_landmarks_in_range.fn at e
  pointwise at e
  by_cases h0 : (0 : EReal) ≤ x1 (ix3 s t k)
  · by_cases h1 : x1 (ix3 s t k) ≤ (1 : EReal)
    · exact ⟨h0, h1⟩
    · rw [decide_eq_false h1, decide_eq_true h0] at e
      exact absurd e (by decide)
  · rw [decide_eq_false h0] at e
    cases hd : decide (x1 (ix3 s t k) ≤ (1 : EReal)) <;> rw [hd] at e <;> exact absurd e (by decide)

end Cert.ReferenceIdeal.Val
-- ==== Proof.RefConv.lean ====
/-
  The reference's two convolutions: each a sum over the taps of a 4 × 4 window at stride 2, as the layer's formula.
-/
module

public import proofs.«01_k».proof.Proof.Gen.ReferenceIdeal.Read
public import proofs.«01_k».proof.Proof.Net

@[expose] public section

set_option maxRecDepth 16384

noncomputable section

namespace Cert.ReferenceIdeal.Val

open Idealize.ShloMosaic Idealize.SL.Sem Cert.ReferenceIdeal Cert.ReferenceIdeal.Gen Cert.Net

/-- Sixteen arrays added from the left. -/
def leftSum {s : Shape} (f : Fin 16 → FVec Ideal s .f32) : FVec Ideal s .f32 :=
  addf (addf (addf (addf (addf (addf (addf (addf (addf (addf (addf (addf (addf (addf (addf (f 0) (f 1)) (f 2)) (f 3)) (f 4)) (f 5)) (f 6)) (f 7)) (f 8))
    (f 9)) (f 10)) (f 11)) (f 12)) (f 13)) (f 14)) (f 15)

/-- Their sum at an index. -/
theorem leftSum_apply {s : Shape} (f : Fin 16 → FVec Ideal s .f32) (i : s.Idx) : leftSum f i = ∑ t : Fin 16, f t i := by
  simp only [Fin.sum_univ_castSucc, Fin.sum_univ_zero, zero_add]
  rfl

/-- The maps with a ring of `z` around each. -/
def ring98 (z : FVec Ideal S_ .f32) (x : FVec Ideal S256x4x96x96 .f32) : FVec Ideal S256x4x98x98 .f32 :=
  pad S256x4x98x98 ![0, 0, 1, 1] ![0, 0, 1, 1] ![0, 0, 0, 0] x z pads_S256x4x96x96_S256x4x98x98_000_000_110_110 h_S_

/-- The padded maps read at an index: `padAt` of the image's channel. -/
theorem ring98_apply (z : FVec Ideal S_ .f32) (hz : ∀ i, z i = (0 : EReal)) (x : FVec Ideal S256x4x96x96 .f32) (n : Fin 256) (c : Fin 4) (a b : Fin 98) :
    ring98 z x (ix4 n c a b) = padAt (fun i j => x (ix4 n c i j)) a.val b.val := by
  obtain rfl : z = fun _ => (0 : EReal) := funext hz
  unfold ring98 padAt
  pointwise
  exact dite_congr (propext (by omega)) (fun _ => rfl) fun _ => rfl

/-- Tap `(a, b)`: the window's entry at that offset, at stride 2, against the tap's weights. -/
def tap98 (xp : FVec Ideal S256x4x98x98 .f32) (w : FVec Ideal S64x4x4x4 .f32) (a b : ℕ)
    (h1 : S256x4x98x98.SlicesBy ![0, 0, a, b] ![1, 1, 2, 2] S256x4x48x48) (h2 : S64x4x4x4.Slices ![0, 0, a, b] S64x4x1x1) :
    FVec Ideal S256x64x48x48 .f32 :=
  transpose S256x64x48x48 [1, 0, 2, 3] (Host.dotGeneral dot_S64x4_S256x4x48x48_S64x256x48x48_1_1_0_023_n_n none
    (shapeCast S64x4 (extractStridedSlice S64x4x1x1 ![0, 0, a, b] w h2) shapeCasts_S64x4x1x1_S64x4)
    (Host.slice S256x4x48x48 ![0, 0, a, b] ![1, 1, 2, 2] xp h1)) transposes_S64x256x48x48_S256x64x48x48_1_0_2_3

/-- One tap read at an index: a sum over the channels. -/
theorem tap98_apply (xp : FVec Ideal S256x4x98x98 .f32) (w : FVec Ideal S64x4x4x4 .f32) (a b : ℕ) (ha : a < 4) (hb : b < 4)
    (h1 : S256x4x98x98.SlicesBy ![0, 0, a, b] ![1, 1, 2, 2] S256x4x48x48) (h2 : S64x4x4x4.Slices ![0, 0, a, b] S64x4x1x1)
    (n : Fin 256) (o : Fin 64) (i j : Fin 48) :
    tap98 xp w a b h1 h2 (ix4 n o i j)
      = ∑ c : Fin 4, xp (ix4 n c ⟨2 * i.val + a, by omega⟩ ⟨2 * j.val + b, by omega⟩) * w (ix4 o c ⟨a, ha⟩ ⟨b, hb⟩) := by
  unfold tap98
  pointwise
  refine Finset.sum_congr rfl fun c _ => (mul_comm _ _).trans (congrArg (· * _) (congrArg xp ?_))
  simp only [ix4_inj, Fin.ext_iff]
  refine ⟨trivial, trivial, ?_, ?_⟩ <;> omega

/-- Tap `t`'s window lies inside the first layer's padded input. -/
theorem window98 (t : Fin 16) : S256x4x98x98.SlicesBy ![0, 0, t.val / 4, t.val % 4] ![1, 1, 2, 2] S256x4x48x48 := by
  revert t; decide

/-- Tap `t`'s slice lies inside the first layer's weights. -/
theorem weights98 (t : Fin 16) : S64x4x4x4.Slices ![0, 0, t.val / 4, t.val % 4] S64x4x1x1 := by
  revert t; decide

/-- The layer: the sixteen taps added, the bias, the positive part. -/
def layer98 (z0 z : FVec Ideal S_ .f32) (x : FVec Ideal S256x4x96x96 .f32) (w : FVec Ideal S64x4x4x4 .f32) (b : FVec Ideal S64 .f32) :
    FVec Ideal S256x64x48x48 .f32 :=
  maximumf (addf (leftSum fun t : Fin 16 => tap98 (ring98 z0 x) w (t.val / 4) (t.val % 4) (window98 t) (weights98 t))
    (broadcastInDim S256x64x48x48 ![0, 1, 2, 3] bcast_S1x64x1x1_S256x64x48x48_0_1_2_3 (broadcastInDim S1x64x1x1 ![1] bcast_S64_S1x64x1x1_1 b)))
    (broadcastInDim S256x64x48x48 ![] bcast_S_S256x64x48x48 z)

/-- The layer is the convolution followed by the positive part. -/
theorem layer98_apply (z0 z : FVec Ideal S_ .f32) (hz0 : ∀ i, z0 i = (0 : EReal)) (hz : ∀ i, z i = (0 : EReal)) (x : FVec Ideal S256x4x96x96 .f32)
    (w : FVec Ideal S64x4x4x4 .f32) (b : FVec Ideal S64 .f32) (n : Fin 256) (o : Fin 64) (i j : Fin 48) :
    layer98 z0 z x w b (ix4 n o i j)
      = relu (conv 48 48 (fun c y z => x (ix4 n c y z)) (fun o c a b => w (ix4 o c a b)) (fun o => b (ix1 o))) o i j := by
  obtain rfl : z = fun _ => (0 : EReal) := funext hz
  have key : (leftSum fun t : Fin 16 => tap98 (ring98 z0 x) w (t.val / 4) (t.val % 4) (window98 t) (weights98 t)) (ix4 n o i j)
      = ∑ t : Fin 16, ∑ c : Fin 4, padAt (fun y z => x (ix4 n c y z)) (2 * i.val + t.val / 4) (2 * j.val + t.val % 4) * w (ix4 o c (tapRow t) (tapCol t)) := by
    rw [leftSum_apply]
    refine Finset.sum_congr rfl fun t _ => ?_
    rw [tap98_apply (ha := by omega) (hb := by omega)]
    refine Finset.sum_congr rfl fun c _ => ?_
    rw [ring98_apply z0 hz0]
    rfl
  unfold layer98 relu conv
  generalize (leftSum fun t : Fin 16 => tap98 (ring98 z0 x) w (t.val / 4) (t.val % 4) (window98 t) (weights98 t)) = s at key ⊢
  pointwise
  rw [key]

/-- The maps with a ring of `z` around each. -/
def ring50 (z : FVec Ideal S_ .f32) (x : FVec Ideal S256x64x48x48 .f32) : FVec Ideal S256x64x50x50 .f32 :=
  pad S256x64x50x50 ![0, 0, 1, 1] ![0, 0, 1, 1] ![0, 0, 0, 0] x z pads_S256x64x48x48_S256x64x50x50_000_000_110_110 h_S_

/-- The padded maps read at an index: `padAt` of the image's channel. -/
theorem ring50_apply (z : FVec Ideal S_ .f32) (hz : ∀ i, z i = (0 : EReal)) (x : FVec Ideal S256x64x48x48 .f32) (n : Fin 256) (c : Fin 64) (a b : Fin 50) :
    ring50 z x (ix4 n c a b) = padAt (fun i j => x (ix4 n c i j)) a.val b.val := by
  obtain rfl : z = fun _ => (0 : EReal) := funext hz
  unfold ring50 padAt
  pointwise
  exact dite_congr (propext (by omega)) (fun _ => rfl) fun _ => rfl

/-- Tap `(a, b)`: the window's entry at that offset, at stride 2, against the tap's weights. -/
def tap50 (xp : FVec Ideal S256x64x50x50 .f32) (w : FVec Ideal S128x64x4x4 .f32) (a b : ℕ)
    (h1 : S256x64x50x50.SlicesBy ![0, 0, a, b] ![1, 1, 2, 2] S256x64x24x24) (h2 : S128x64x4x4.Slices ![0, 0, a, b] S128x64x1x1) :
    FVec Ideal S256x128x24x24 .f32 :=
  transpose S256x128x24x24 [1, 0, 2, 3] (Host.dotGeneral dot_S128x64_S256x64x24x24_S128x256x24x24_1_1_0_023_n_n none
    (shapeCast S128x64 (extractStridedSlice S128x64x1x1 ![0, 0, a, b] w h2) shapeCasts_S128x64x1x1_S128x64)
    (Host.slice S256x64x24x24 ![0, 0, a, b] ![1, 1, 2, 2] xp h1)) transposes_S128x256x24x24_S256x128x24x24_1_0_2_3

/-- One tap read at an index: a sum over the channels. -/
theorem tap50_apply (xp : FVec Ideal S256x64x50x50 .f32) (w : FVec Ideal S128x64x4x4 .f32) (a b : ℕ) (ha : a < 4) (hb : b < 4)
    (h1 : S256x64x50x50.SlicesBy ![0, 0, a, b] ![1, 1, 2, 2] S256x64x24x24) (h2 : S128x64x4x4.Slices ![0, 0, a, b] S128x64x1x1)
    (n : Fin 256) (o : Fin 128) (i j : Fin 24) :
    tap50 xp w a b h1 h2 (ix4 n o i j)
      = ∑ c : Fin 64, xp (ix4 n c ⟨2 * i.val + a, by omega⟩ ⟨2 * j.val + b, by omega⟩) * w (ix4 o c ⟨a, ha⟩ ⟨b, hb⟩) := by
  unfold tap50
  pointwise
  refine Finset.sum_congr rfl fun c _ => (mul_comm _ _).trans (congrArg (· * _) (congrArg xp ?_))
  simp only [ix4_inj, Fin.ext_iff]
  refine ⟨trivial, trivial, ?_, ?_⟩ <;> omega

/-- Tap `t`'s window lies inside the second layer's padded input. -/
theorem window50 (t : Fin 16) : S256x64x50x50.SlicesBy ![0, 0, t.val / 4, t.val % 4] ![1, 1, 2, 2] S256x64x24x24 := by
  revert t; decide

/-- Tap `t`'s slice lies inside the second layer's weights. -/
theorem weights50 (t : Fin 16) : S128x64x4x4.Slices ![0, 0, t.val / 4, t.val % 4] S128x64x1x1 := by
  revert t; decide

/-- The layer: the sixteen taps added, the bias, the positive part. -/
def layer50 (z0 z : FVec Ideal S_ .f32) (x : FVec Ideal S256x64x48x48 .f32) (w : FVec Ideal S128x64x4x4 .f32) (b : FVec Ideal S128 .f32) :
    FVec Ideal S256x128x24x24 .f32 :=
  maximumf (addf (leftSum fun t : Fin 16 => tap50 (ring50 z0 x) w (t.val / 4) (t.val % 4) (window50 t) (weights50 t))
    (broadcastInDim S256x128x24x24 ![0, 1, 2, 3] bcast_S1x128x1x1_S256x128x24x24_0_1_2_3 (broadcastInDim S1x128x1x1 ![1] bcast_S128_S1x128x1x1_1 b)))
    (broadcastInDim S256x128x24x24 ![] bcast_S_S256x128x24x24 z)

/-- The layer is the convolution followed by the positive part. -/
theorem layer50_apply (z0 z : FVec Ideal S_ .f32) (hz0 : ∀ i, z0 i = (0 : EReal)) (hz : ∀ i, z i = (0 : EReal)) (x : FVec Ideal S256x64x48x48 .f32)
    (w : FVec Ideal S128x64x4x4 .f32) (b : FVec Ideal S128 .f32) (n : Fin 256) (o : Fin 128) (i j : Fin 24) :
    layer50 z0 z x w b (ix4 n o i j)
      = relu (conv 24 24 (fun c y z => x (ix4 n c y z)) (fun o c a b => w (ix4 o c a b)) (fun o => b (ix1 o))) o i j := by
  obtain rfl : z = fun _ => (0 : EReal) := funext hz
  have key : (leftSum fun t : Fin 16 => tap50 (ring50 z0 x) w (t.val / 4) (t.val % 4) (window50 t) (weights50 t)) (ix4 n o i j)
      = ∑ t : Fin 16, ∑ c : Fin 64, padAt (fun y z => x (ix4 n c y z)) (2 * i.val + t.val / 4) (2 * j.val + t.val % 4) * w (ix4 o c (tapRow t) (tapCol t)) := by
    rw [leftSum_apply]
    refine Finset.sum_congr rfl fun t _ => ?_
    rw [tap50_apply (ha := by omega) (hb := by omega)]
    refine Finset.sum_congr rfl fun c _ => ?_
    rw [ring50_apply z0 hz0]
    rfl
  unfold layer50 relu conv
  generalize (leftSum fun t : Fin 16 => tap50 (ring50 z0 x) w (t.val / 4) (t.val % 4) (window50 t) (weights50 t)) = s at key ⊢
  pointwise
  rw [key]

/-- The program's first layer. -/
theorem layer1_eq (x0 : FVec Ideal S8x3x96x96 .f32) (x1 : FVec Ideal S8x32x136 .f32) (x2 : FVec Ideal S64x4x4x4 .f32) (x3 : FVec Ideal S64 .f32) :
    Read.val_main_v150 (F := Ideal) x0 x1 x2 x3
      = layer98 (Read.val_main_call2_v0 (F := Ideal)) (Read.val_main_call3_cst (F := Ideal)) (Read.val_main_v50 (F := Ideal) x0 x1) x2 x3 := rfl

/-- The program's second layer. -/
theorem layer2_eq (x0 : FVec Ideal S8x3x96x96 .f32) (x1 : FVec Ideal S8x32x136 .f32) (x2 : FVec Ideal S64x4x4x4 .f32) (x3 : FVec Ideal S64 .f32)
    (x4 : FVec Ideal S128x64x4x4 .f32) (x5 : FVec Ideal S128 .f32) :
    Read.val_main_v250 (F := Ideal) x0 x1 x2 x3 x4 x5
      = layer50 (Read.val_main_call4_v0 (F := Ideal)) (Read.val_main_call5_cst (F := Ideal)) (Read.val_main_v150 (F := Ideal) x0 x1 x2 x3) x4 x5 := rfl

end Cert.ReferenceIdeal.Val
-- ==== Proof.RefDeconv.lean ====
/-
  The reference's two transposed convolutions: each a convolution of the dilated maps with the reversed weights, as the layer's formula.
-/
module

public import proofs.«01_k».proof.Proof.Gen.ReferenceIdeal.Read
public import proofs.«01_k».proof.Proof.RefConv

@[expose] public section

set_option maxRecDepth 16384

noncomputable section

namespace Cert.ReferenceIdeal.Val

open Idealize.ShloMosaic Idealize.SL.Sem Cert.ReferenceIdeal Cert.ReferenceIdeal.Gen Cert.Net

/-- One map dilated by two with a border of two, read at row `a` and column `b`: an entry of the map with its ring of zeros where
    both are even, zero elsewhere. -/
def spreadAt {H W : ℕ} (x : Fin H → Fin W → EReal) (a b : ℕ) : EReal := if a % 2 = 0 ∧ b % 2 = 0 then padAt x (a / 2) (b / 2) else 0

/-- Of the sixteen taps over the dilated maps the four whose parities fit remain. -/
theorem taps_deconv {C O H W : ℕ} (x : Maps C H W) (w : Fin C → Fin O → Fin 4 → Fin 4 → EReal) (o : Fin O) (y v : ℕ) :
    (∑ t : Fin 16, ∑ c : Fin C, spreadAt (x c) (y + t.val / 4) (v + t.val % 4) * w c o ⟨3 - t.val / 4, by omega⟩ ⟨3 - t.val % 4, by omega⟩)
      = ∑ s : Fin 4, ∑ c : Fin C, padAt (x c) (y / 2 + y % 2 + s.val / 2) (v / 2 + v % 2 + s.val % 2)
          * w c o (flipTap (y % 2) (s.val / 2)) (flipTap (v % 2) (s.val % 2)) := by
  symm
  refine Fintype.sum_of_injective (fun s : Fin 4 => (⟨4 * (y % 2 + 2 * (s.val / 2)) + (v % 2 + 2 * (s.val % 2)), by omega⟩ : Fin 16)) ?_ _ _ ?_ ?_
  · intro s s' h
    simp only [Fin.mk.injEq] at h
    exact Fin.ext (by omega)
  · intro t ht
    refine Finset.sum_eq_zero fun c _ => ?_
    have : ¬ ((y + t.val / 4) % 2 = 0 ∧ (v + t.val % 4) % 2 = 0) := fun h =>
      ht ⟨⟨2 * (t.val / 8) + t.val % 4 / 2, by omega⟩, Fin.ext (by dsimp only; omega)⟩
    unfold spreadAt
    rw [if_neg this, zero_mul]
  · intro s
    refine Finset.sum_congr rfl fun c _ => ?_
    unfold spreadAt
    have e1 : (4 * (y % 2 + 2 * (s.val / 2)) + (v % 2 + 2 * (s.val % 2))) / 4 = y % 2 + 2 * (s.val / 2) := by omega
    have e2 : (4 * (y % 2 + 2 * (s.val / 2)) + (v % 2 + 2 * (s.val % 2))) % 4 = v % 2 + 2 * (s.val % 2) := by omega
    rw [if_pos (by dsimp only; rw [e1, e2]; omega)]
    simp only [e1, e2]
    have e3 : (y + (y % 2 + 2 * (s.val / 2))) / 2 = y / 2 + y % 2 + s.val / 2 := by omega
    have e4 : (v + (v % 2 + 2 * (s.val % 2))) / 2 = v / 2 + v % 2 + s.val % 2 := by omega
    rw [e3, e4]
    refine congrArg _ (congrArg₂ (w c o) (Fin.ext ?_) (Fin.ext ?_))
    · show 3 - y % 2 - 2 * (s.val / 2) = 3 - (y % 2 + 2 * (s.val / 2)); omega
    · show 3 - v % 2 - 2 * (s.val % 2) = 3 - (v % 2 + 2 * (s.val % 2)); omega

/-- The maps dilated by two, with a border of two: `z` between and around the entries. -/
def spread51 (z : FVec Ideal S_ .f32) (x : FVec Ideal S256x128x24x24 .f32) : FVec Ideal S256x128x51x51 .f32 :=
  pad S256x128x51x51 ![0, 0, 2, 2] ![0, 0, 2, 2] ![0, 0, 1, 1] x z pads_S256x128x24x24_S256x128x51x51_000_000_221_221 h_S_

/-- The dilated maps at an index: an entry of the padded map where row and column are even, zero elsewhere. -/
theorem spread51_apply (z : FVec Ideal S_ .f32) (hz : ∀ i, z i = (0 : EReal)) (x : FVec Ideal S256x128x24x24 .f32) (n : Fin 256) (c : Fin 128) (a b : Fin 51) :
    spread51 z x (ix4 n c a b) = spreadAt (fun i j => x (ix4 n c i j)) a.val b.val := by
  obtain rfl : z = fun _ => (0 : EReal) := funext hz
  unfold spread51 spreadAt padAt
  pointwise
  by_cases h : a.val % 2 = 0 ∧ b.val % 2 = 0
  · rw [if_pos h]
    refine dite_congr (propext (by omega)) (fun _ => congrArg x ?_) fun _ => rfl
    simp only [ix4_inj, Fin.ext_iff]
    refine ⟨trivial, trivial, ?_, ?_⟩ <;> omega
  · rw [if_neg h, dif_neg (by omega)]

/-- The weights with rows and columns reversed and the two channel axes exchanged. -/
def flipped51 (w : FVec Ideal S128x64x4x4 .f32) : FVec Ideal S64x128x4x4 .f32 :=
  transpose S64x128x4x4 [1, 0, 2, 3] (Host.reverse [2, 3] w) transposes_S128x64x4x4_S64x128x4x4_1_0_2_3

/-- The third layer's weights, flipped and with their channels swapped. -/
theorem flipped51_apply (w : FVec Ideal S128x64x4x4 .f32) (o : Fin 64) (c : Fin 128) (a b : Fin 4) :
    flipped51 w (ix4 o c a b) = w (ix4 c o ⟨3 - a.val, by omega⟩ ⟨3 - b.val, by omega⟩) := by
  unfold flipped51
  pointwise
  refine congrArg w ?_
  show ix4 c o a.rev b.rev = _
  simp only [ix4_inj, Fin.ext_iff, Fin.val_rev]
  refine ⟨trivial, trivial, ?_, ?_⟩ <;> omega

/-- Tap `(a, b)`: the dilated maps' window at that offset against the tap's weights. -/
def tap51 (xp : FVec Ideal S256x128x51x51 .f32) (w : FVec Ideal S64x128x4x4 .f32) (a b : ℕ)
    (h1 : S256x128x51x51.Slices ![0, 0, a, b] S256x128x48x48) (h2 : S64x128x4x4.Slices ![0, 0, a, b] S64x128x1x1) :
    FVec Ideal S256x64x48x48 .f32 :=
  transpose S256x64x48x48 [1, 0, 2, 3] (Host.dotGeneral dot_S64x128_S256x128x48x48_S64x256x48x48_1_1_0_023_n_n none
    (shapeCast S64x128 (extractStridedSlice S64x128x1x1 ![0, 0, a, b] w h2) shapeCasts_S64x128x1x1_S64x128)
    (extractStridedSlice S256x128x48x48 ![0, 0, a, b] xp h1)) transposes_S64x256x48x48_S256x64x48x48_1_0_2_3

/-- One tap read at an index: a sum over the channels. -/
theorem tap51_apply (xp : FVec Ideal S256x128x51x51 .f32) (w : FVec Ideal S64x128x4x4 .f32) (a b : ℕ) (ha : a < 4) (hb : b < 4)
    (h1 : S256x128x51x51.Slices ![0, 0, a, b] S256x128x48x48) (h2 : S64x128x4x4.Slices ![0, 0, a, b] S64x128x1x1)
    (n : Fin 256) (o : Fin 64) (y v : Fin 48) :
    tap51 xp w a b h1 h2 (ix4 n o y v)
      = ∑ c : Fin 128, xp (ix4 n c ⟨y.val + a, by omega⟩ ⟨v.val + b, by omega⟩) * w (ix4 o c ⟨a, ha⟩ ⟨b, hb⟩) := by
  unfold tap51
  pointwise
  refine Finset.sum_congr rfl fun c _ => (mul_comm _ _).trans (congrArg (· * _) (congrArg xp ?_))
  simp only [ix4_inj, Fin.ext_iff]
  refine ⟨trivial, trivial, ?_, ?_⟩ <;> omega

/-- Tap `t`'s window lies inside the third layer's dilated input. -/
theorem window51 (t : Fin 16) : S256x128x51x51.Slices ![0, 0, t.val / 4, t.val % 4] S256x128x48x48 := by
  revert t; decide

/-- Tap `t`'s slice lies inside the third layer's weights. -/
theorem weights51 (t : Fin 16) : S64x128x4x4.Slices ![0, 0, t.val / 4, t.val % 4] S64x128x1x1 := by
  revert t; decide

/-- The sixteen taps added, and the bias. -/
def sum51 (z0 : FVec Ideal S_ .f32) (x : FVec Ideal S256x128x24x24 .f32) (w : FVec Ideal S128x64x4x4 .f32) (b : FVec Ideal S64 .f32) :
    FVec Ideal S256x64x48x48 .f32 :=
  addf (leftSum fun t : Fin 16 => tap51 (spread51 z0 x) (flipped51 w) (t.val / 4) (t.val % 4) (window51 t) (weights51 t))
    (broadcastInDim S256x64x48x48 ![0, 1, 2, 3] bcast_S1x64x1x1_S256x64x48x48_0_1_2_3 (broadcastInDim S1x64x1x1 ![1] bcast_S64_S1x64x1x1_1 b))

/-- The sum is the transposed convolution. -/
theorem sum51_apply (z0 : FVec Ideal S_ .f32) (hz0 : ∀ i, z0 i = (0 : EReal)) (x : FVec Ideal S256x128x24x24 .f32)
    (w : FVec Ideal S128x64x4x4 .f32) (b : FVec Ideal S64 .f32) (n : Fin 256) (o : Fin 64) (y v : Fin 48) :
    sum51 z0 x w b (ix4 n o y v)
      = deconv 48 48 (fun c y z => x (ix4 n c y z)) (fun c o a b => w (ix4 c o a b)) (fun o => b (ix1 o)) o y v := by
  have key : (leftSum fun t : Fin 16 => tap51 (spread51 z0 x) (flipped51 w) (t.val / 4) (t.val % 4) (window51 t) (weights51 t)) (ix4 n o y v)
      = ∑ t : Fin 16, ∑ c : Fin 128, spreadAt (fun y z => x (ix4 n c y z)) (y.val + t.val / 4) (v.val + t.val % 4)
          * w (ix4 c o ⟨3 - t.val / 4, by omega⟩ ⟨3 - t.val % 4, by omega⟩) := by
    rw [leftSum_apply]
    refine Finset.sum_congr rfl fun t _ => ?_
    rw [tap51_apply (ha := by omega) (hb := by omega)]
    refine Finset.sum_congr rfl fun c _ => ?_
    rw [spread51_apply z0 hz0, flipped51_apply]
  unfold sum51
  generalize (leftSum fun t : Fin 16 => tap51 (spread51 z0 x) (flipped51 w) (t.val / 4) (t.val % 4) (window51 t) (weights51 t)) = s at key ⊢
  pointwise
  rw [key]
  exact congrArg (· + _) (taps_deconv (fun c y z => x (ix4 n c y z)) (fun c o a b => w (ix4 c o a b)) o y.val v.val)

/-- The maps dilated by two, with a border of two: `z` between and around the entries. -/
def spread99 (z : FVec Ideal S_ .f32) (x : FVec Ideal S256x64x48x48 .f32) : FVec Ideal S256x64x99x99 .f32 :=
  pad S256x64x99x99 ![0, 0, 2, 2] ![0, 0, 2, 2] ![0, 0, 1, 1] x z pads_S256x64x48x48_S256x64x99x99_000_000_221_221 h_S_

/-- The dilated maps at an index: an entry of the padded map where row and column are even, zero elsewhere. -/
theorem spread99_apply (z : FVec Ideal S_ .f32) (hz : ∀ i, z i = (0 : EReal)) (x : FVec Ideal S256x64x48x48 .f32) (n : Fin 256) (c : Fin 64) (a b : Fin 99) :
    spread99 z x (ix4 n c a b) = spreadAt (fun i j => x (ix4 n c i j)) a.val b.val := by
  obtain rfl : z = fun _ => (0 : EReal) := funext hz
  unfold spread99 spreadAt padAt
  pointwise
  by_cases h : a.val % 2 = 0 ∧ b.val % 2 = 0
  · rw [if_pos h]
    refine dite_congr (propext (by omega)) (fun _ => congrArg x ?_) fun _ => rfl
    simp only [ix4_inj, Fin.ext_iff]
    refine ⟨trivial, trivial, ?_, ?_⟩ <;> omega
  · rw [if_neg h, dif_neg (by omega)]

/-- The weights with rows and columns reversed and the two channel axes exchanged. -/
def flipped99 (w : FVec Ideal S64x3x4x4 .f32) : FVec Ideal S3x64x4x4 .f32 :=
  transpose S3x64x4x4 [1, 0, 2, 3] (Host.reverse [2, 3] w) transposes_S64x3x4x4_S3x64x4x4_1_0_2_3

/-- The last layer's weights, flipped and with their channels swapped. -/
theorem flipped99_apply (w : FVec Ideal S64x3x4x4 .f32) (o : Fin 3) (c : Fin 64) (a b : Fin 4) :
    flipped99 w (ix4 o c a b) = w (ix4 c o ⟨3 - a.val, by omega⟩ ⟨3 - b.val, by omega⟩) := by
  unfold flipped99
  pointwise
  refine congrArg w ?_
  show ix4 c o a.rev b.rev = _
  simp only [ix4_inj, Fin.ext_iff, Fin.val_rev]
  refine ⟨trivial, trivial, ?_, ?_⟩ <;> omega

/-- Tap `(a, b)`: the dilated maps' window at that offset against the tap's weights. -/
def tap99 (xp : FVec Ideal S256x64x99x99 .f32) (w : FVec Ideal S3x64x4x4 .f32) (a b : ℕ)
    (h1 : S256x64x99x99.Slices ![0, 0, a, b] S256x64x96x96) (h2 : S3x64x4x4.Slices ![0, 0, a, b] S3x64x1x1) :
    FVec Ideal S256x3x96x96 .f32 :=
  transpose S256x3x96x96 [1, 0, 2, 3] (Host.dotGeneral dot_S3x64_S256x64x96x96_S3x256x96x96_1_1_0_023_n_n none
    (shapeCast S3x64 (extractStridedSlice S3x64x1x1 ![0, 0, a, b] w h2) shapeCasts_S3x64x1x1_S3x64)
    (extractStridedSlice S256x64x96x96 ![0, 0, a, b] xp h1)) transposes_S3x256x96x96_S256x3x96x96_1_0_2_3

/-- One tap read at an index: a sum over the channels. -/
theorem tap99_apply (xp : FVec Ideal S256x64x99x99 .f32) (w : FVec Ideal S3x64x4x4 .f32) (a b : ℕ) (ha : a < 4) (hb : b < 4)
    (h1 : S256x64x99x99.Slices ![0, 0, a, b] S256x64x96x96) (h2 : S3x64x4x4.Slices ![0, 0, a, b] S3x64x1x1)
    (n : Fin 256) (o : Fin 3) (y v : Fin 96) :
    tap99 xp w a b h1 h2 (ix4 n o y v)
      = ∑ c : Fin 64, xp (ix4 n c ⟨y.val + a, by omega⟩ ⟨v.val + b, by omega⟩) * w (ix4 o c ⟨a, ha⟩ ⟨b, hb⟩) := by
  unfold tap99
  pointwise
  refine Finset.sum_congr rfl fun c _ => (mul_comm _ _).trans (congrArg (· * _) (congrArg xp ?_))
  simp only [ix4_inj, Fin.ext_iff]
  refine ⟨trivial, trivial, ?_, ?_⟩ <;> omega

/-- Tap `t`'s window lies inside the last layer's dilated input. -/
theorem window99 (t : Fin 16) : S256x64x99x99.Slices ![0, 0, t.val / 4, t.val % 4] S256x64x96x96 := by
  revert t; decide

/-- Tap `t`'s slice lies inside the last layer's weights. -/
theorem weights99 (t : Fin 16) : S3x64x4x4.Slices ![0, 0, t.val / 4, t.val % 4] S3x64x1x1 := by
  revert t; decide

/-- The sixteen taps added, and the bias. -/
def sum99 (z0 : FVec Ideal S_ .f32) (x : FVec Ideal S256x64x48x48 .f32) (w : FVec Ideal S64x3x4x4 .f32) (b : FVec Ideal S3 .f32) :
    FVec Ideal S256x3x96x96 .f32 :=
  addf (leftSum fun t : Fin 16 => tap99 (spread99 z0 x) (flipped99 w) (t.val / 4) (t.val % 4) (window99 t) (weights99 t))
    (broadcastInDim S256x3x96x96 ![0, 1, 2, 3] bcast_S1x3x1x1_S256x3x96x96_0_1_2_3 (broadcastInDim S1x3x1x1 ![1] bcast_S3_S1x3x1x1_1 b))

/-- The sum is the transposed convolution. -/
theorem sum99_apply (z0 : FVec Ideal S_ .f32) (hz0 : ∀ i, z0 i = (0 : EReal)) (x : FVec Ideal S256x64x48x48 .f32)
    (w : FVec Ideal S64x3x4x4 .f32) (b : FVec Ideal S3 .f32) (n : Fin 256) (o : Fin 3) (y v : Fin 96) :
    sum99 z0 x w b (ix4 n o y v)
      = deconv 96 96 (fun c y z => x (ix4 n c y z)) (fun c o a b => w (ix4 c o a b)) (fun o => b (ix1 o)) o y v := by
  have key : (leftSum fun t : Fin 16 => tap99 (spread99 z0 x) (flipped99 w) (t.val / 4) (t.val % 4) (window99 t) (weights99 t)) (ix4 n o y v)
      = ∑ t : Fin 16, ∑ c : Fin 64, spreadAt (fun y z => x (ix4 n c y z)) (y.val + t.val / 4) (v.val + t.val % 4)
          * w (ix4 c o ⟨3 - t.val / 4, by omega⟩ ⟨3 - t.val % 4, by omega⟩) := by
    rw [leftSum_apply]
    refine Finset.sum_congr rfl fun t _ => ?_
    rw [tap99_apply (ha := by omega) (hb := by omega)]
    refine Finset.sum_congr rfl fun c _ => ?_
    rw [spread99_apply z0 hz0, flipped99_apply]
  unfold sum99
  generalize (leftSum fun t : Fin 16 => tap99 (spread99 z0 x) (flipped99 w) (t.val / 4) (t.val % 4) (window99 t) (weights99 t)) = s at key ⊢
  pointwise
  rw [key]
  exact congrArg (· + _) (taps_deconv (fun c y z => x (ix4 n c y z)) (fun c o a b => w (ix4 c o a b)) o y.val v.val)

/-- The program's third layer. -/
theorem layer3_eq (x0 : FVec Ideal S8x3x96x96 .f32) (x1 : FVec Ideal S8x32x136 .f32) (x2 : FVec Ideal S64x4x4x4 .f32) (x3 : FVec Ideal S64 .f32)
    (x4 : FVec Ideal S128x64x4x4 .f32) (x5 : FVec Ideal S128 .f32) (x6 : FVec Ideal S128x64x4x4 .f32) (x7 : FVec Ideal S64 .f32) :
    Read.val_main_v352 (F := Ideal) x0 x1 x2 x3 x4 x5 x6 x7
      = maximumf (sum51 (Read.val_main_cst_15 (F := Ideal)) (Read.val_main_v250 (F := Ideal) x0 x1 x2 x3 x4 x5) x6 x7)
          (Read.val_main_call7_v0 (F := Ideal)) := rfl

/-- The program's fourth layer. -/
theorem layer4_eq (x0 : FVec Ideal S8x3x96x96 .f32) (x1 : FVec Ideal S8x32x136 .f32) (x2 : FVec Ideal S64x4x4x4 .f32) (x3 : FVec Ideal S64 .f32)
    (x4 : FVec Ideal S128x64x4x4 .f32) (x5 : FVec Ideal S128 .f32) (x6 : FVec Ideal S128x64x4x4 .f32) (x7 : FVec Ideal S64 .f32)
    (x8 : FVec Ideal S64x3x4x4 .f32) (x9 : FVec Ideal S3 .f32) :
    Read.val_main_v454 (F := Ideal) x0 x1 x2 x3 x4 x5 x6 x7 x8 x9
      = Host.tanh (sum99 (Read.val_main_cst_16 (F := Ideal)) (Read.val_main_v352 (F := Ideal) x0 x1 x2 x3 x4 x5 x6 x7) x8 x9) := rfl

end Cert.ReferenceIdeal.Val
-- ==== Proof.RefNet.lean ====
/-
  The reference's result: layer after layer, the network's formula.
-/
module

public import proofs.«01_k».proof.Proof.RefHeat
public import proofs.«01_k».proof.Proof.RefDeconv

@[expose] public section

set_option maxRecDepth 16384

noncomputable section

namespace Cert.ReferenceIdeal.Val

open Idealize.ShloMosaic Idealize.SL.Sem Cert.ReferenceIdeal Cert.ReferenceIdeal.Gen Cert.Net

/-- The integer 0 converted is the number 0. -/
theorem zero_num : (FloatOps.sitofp .f32 0#32 : Ideal .f32) = (0 : EReal) := by
  show (((0#32 : BitVec 32).toInt : ℝ) : EReal) = 0
  simp

/-- The first layer pads with 0. -/
theorem pad1_zero (i : S_.Idx) : Read.val_main_call2_v0 (F := Ideal) i = (0 : EReal) := by
  unfold Read.val_main_call2_v0 Read.val_main_c_13
  pointwise
  exact zero_num

/-- The first layer's positive part is against 0. -/
theorem relu1_zero (i : S_.Idx) : Read.val_main_call3_cst (F := Ideal) i = (0 : EReal) := by
  unfold Read.val_main_call3_cst
  pointwise

/-- The second layer pads with 0. -/
theorem pad2_zero (i : S_.Idx) : Read.val_main_call4_v0 (F := Ideal) i = (0 : EReal) := by
  unfold Read.val_main_call4_v0 Read.val_main_c_14
  pointwise
  exact zero_num

/-- The second layer's positive part is against 0. -/
theorem relu2_zero (i : S_.Idx) : Read.val_main_call5_cst (F := Ideal) i = (0 : EReal) := by
  unfold Read.val_main_call5_cst
  pointwise

/-- The third layer dilates and pads with 0. -/
theorem pad3_zero (i : S_.Idx) : Read.val_main_cst_15 (F := Ideal) i = (0 : EReal) := by
  unfold Read.val_main_cst_15
  pointwise

/-- The third layer's positive part is against 0. -/
theorem relu3_zero (i : S256x64x48x48.Idx) : Read.val_main_call7_v0 (F := Ideal) i = (0 : EReal) := by
  unfold Read.val_main_call7_v0 Read.val_main_call7_cst
  pointwise

/-- The last layer dilates and pads with 0. -/
theorem pad4_zero (i : S_.Idx) : Read.val_main_cst_16 (F := Ideal) i = (0 : EReal) := by
  unfold Read.val_main_cst_16
  pointwise

/-- Every frame's result before the last reshape is the network's. -/
theorem v454_apply (x0 : FVec Ideal S8x3x96x96 .f32) (x1 : FVec Ideal S8x32x136 .f32) (hr : InRange x1) (x2 : FVec Ideal S64x4x4x4 .f32)
    (x3 : FVec Ideal S64 .f32) (x4 : FVec Ideal S128x64x4x4 .f32) (x5 : FVec Ideal S128 .f32) (x6 : FVec Ideal S128x64x4x4 .f32)
    (x7 : FVec Ideal S64 .f32) (x8 : FVec Ideal S64x3x4x4 .f32) (x9 : FVec Ideal S3 .f32) (n : Fin 256) (o : Fin 3) (y v : Fin 96) :
    Read.val_main_v454 (F := Ideal) x0 x1 x2 x3 x4 x5 x6 x7 x8 x9 (ix4 n o y v) = network x0 x1 x2 x3 x4 x5 x6 x7 x8 x9 n o y v := by
  rw [layer4_eq]
  show Ideal.tanh (sum99 _ _ x8 x9 (ix4 n o y v)) = _
  rw [sum99_apply _ pad4_zero]
  unfold network
  refine congrArg (fun m => Ideal.tanh (deconv 96 96 m _ _ o y v)) (funext fun c => funext fun i => funext fun j => ?_)
  rw [layer3_eq]
  show max (sum51 _ _ x6 x7 (ix4 n c i j)) (Read.val_main_call7_v0 (F := Ideal) (ix4 n c i j)) = _
  rw [sum51_apply _ pad3_zero, relu3_zero]
  refine congrArg (fun m => relu (deconv 48 48 m _ _) c i j) (funext fun c => funext fun i => funext fun j => ?_)
  rw [layer2_eq, layer50_apply _ _ pad2_zero relu2_zero]
  refine congrArg (fun m => relu (conv 24 24 m _ _) c i j) (funext fun c => funext fun i => funext fun j => ?_)
  rw [layer1_eq, layer98_apply _ _ pad1_zero relu1_zero]
  exact congrArg (fun m => relu (conv 48 48 m _ _) c i j) (funext fun c => funext fun i => funext fun j => v50_apply x0 x1 hr n c i j)

/-- The network's results for all frames, as the array of rank five both programs return. -/
theorem v455_apply (x0 : FVec Ideal S8x3x96x96 .f32) (x1 : FVec Ideal S8x32x136 .f32) (hr : InRange x1) (x2 : FVec Ideal S64x4x4x4 .f32)
    (x3 : FVec Ideal S64 .f32) (x4 : FVec Ideal S128x64x4x4 .f32) (x5 : FVec Ideal S128 .f32) (x6 : FVec Ideal S128x64x4x4 .f32)
    (x7 : FVec Ideal S64 .f32) (x8 : FVec Ideal S64x3x4x4 .f32) (x9 : FVec Ideal S3 .f32) :
    Read.val_main_v455 (F := Ideal) x0 x1 x2 x3 x4 x5 x6 x7 x8 x9 = networkOut x0 x1 x2 x3 x4 x5 x6 x7 x8 x9 := by
  funext i
  obtain ⟨s, t, o, y, v, rfl⟩ : ∃ s t o y v, i = ix5 s t o y v := ⟨_, _, _, _, _, eq_ix5 i⟩
  rw [networkOut_apply, ← v454_apply x0 x1 hr]
  unfold Read.val_main_v455
  generalize Read.val_main_v454 (F := Ideal) x0 x1 x2 x3 x4 x5 x6 x7 x8 x9 = r
  pointwise

end Cert.ReferenceIdeal.Val
-- ==== Proof.Pads.lean ====
/-
  The kernel's zero padding, read at an index.
-/
module

public import proofs.«01_k».proof.Proof.Gen.KernelIdeal.Skeleton
public import proofs.«01_k».proof.Proof.Net

@[expose] public section

set_option maxRecDepth 16384

noncomputable section

namespace Cert.KernelIdeal.Val

open Idealize.ShloMosaic Idealize.SL.Sem Cert.KernelIdeal.Gen Cert.Net

/-- The nested tests of four one-sided paddings are the one test of a ring. -/
theorem ring_ladder (H a b : ℕ) (v : ((1 ≤ a ∧ a ≤ H) ∧ (1 ≤ b ∧ b ≤ H)) → EReal) :
    (if hb : b < H + 1 then
      if hb' : b < 1 then (0 : EReal)
      else if ha : a < H + 1 then if ha' : a < 1 then (0 : EReal) else v (by omega) else (0 : EReal)
    else (0 : EReal)) = if h : (1 ≤ a ∧ a ≤ H) ∧ (1 ≤ b ∧ b ≤ H) then v h else 0 := by
  by_cases h : (1 ≤ a ∧ a ≤ H) ∧ (1 ≤ b ∧ b ≤ H)
  · rw [dif_pos h, dif_pos (by omega), dif_neg (by omega), dif_pos (by omega), dif_neg (by omega)]
  · rw [dif_neg h]
    split_ifs <;> first | rfl | (exfalso; omega)

/-- The integer zero as a number. -/
theorem zero_word : (Scalar.sitofp .f32 0#32 : Ideal .f32) = (0 : EReal) := by
  rw [Ideal.scalar_sitofp_def]; simp

/-- The 96 × 96 × 4 maps `x` with a ring of `z` around them. -/
def padded98 (z : Ideal .f32) (x : FVec Ideal S96x96x4 .f32) : FVec Ideal S98x98x4 .f32 :=
  have v43 : FVec Ideal S1x96x4 .f32 := broadcast S1x96x4 z
  have v44 : FVec Ideal S97x96x4 .f32 := concatenate S97x96x4 0 [⟨S1x96x4, v43⟩, ⟨S96x96x4, x⟩] concatenates_S1x96x4_S96x96x4_S97x96x4_d0
  have v46 : FVec Ideal S98x96x4 .f32 := concatenate S98x96x4 0 [⟨S97x96x4, v44⟩, ⟨S1x96x4, v43⟩] concatenates_S97x96x4_S1x96x4_S98x96x4_d0
  have v47 : FVec Ideal S98x1x4 .f32 := broadcast S98x1x4 z
  have v48 : FVec Ideal S98x97x4 .f32 := concatenate S98x97x4 1 [⟨S98x1x4, v47⟩, ⟨S98x96x4, v46⟩] concatenates_S98x1x4_S98x96x4_S98x97x4_d1
  concatenate S98x98x4 1 [⟨S98x97x4, v48⟩, ⟨S98x1x4, v47⟩] concatenates_S98x97x4_S98x1x4_S98x98x4_d1

/-- The padded maps read at an index: `padAt` of the channel. -/
theorem padded98_apply (z : Ideal .f32) (hz : z = (0 : EReal)) (x : FVec Ideal S96x96x4 .f32) (a b : Fin 98) (c : Fin 4) :
    padded98 z x (ix3 a b c) = padAt (fun i j => x (ix3 i j c)) a.val b.val := by
  subst hz
  unfold padded98 padAt
  pointwise
  exact ring_ladder 96 a.val b.val (fun h => x (ix3 ⟨a.val - 1, by omega⟩ ⟨b.val - 1, by omega⟩ c))

/-- The 48 × 48 × 64 maps `x` with a ring of `z` around them. -/
def padded50 (z : Ideal .f32) (x : FVec Ideal S48x48x64 .f32) : FVec Ideal S50x50x64 .f32 :=
  have v43 : FVec Ideal S1x48x64 .f32 := broadcast S1x48x64 z
  have v44 : FVec Ideal S49x48x64 .f32 := concatenate S49x48x64 0 [⟨S1x48x64, v43⟩, ⟨S48x48x64, x⟩] concatenates_S1x48x64_S48x48x64_S49x48x64_d0
  have v46 : FVec Ideal S50x48x64 .f32 := concatenate S50x48x64 0 [⟨S49x48x64, v44⟩, ⟨S1x48x64, v43⟩] concatenates_S49x48x64_S1x48x64_S50x48x64_d0
  have v47 : FVec Ideal S50x1x64 .f32 := broadcast S50x1x64 z
  have v48 : FVec Ideal S50x49x64 .f32 := concatenate S50x49x64 1 [⟨S50x1x64, v47⟩, ⟨S50x48x64, v46⟩] concatenates_S50x1x64_S50x48x64_S50x49x64_d1
  concatenate S50x50x64 1 [⟨S50x49x64, v48⟩, ⟨S50x1x64, v47⟩] concatenates_S50x49x64_S50x1x64_S50x50x64_d1

/-- The padded maps read at an index: `padAt` of the channel. -/
theorem padded50_apply (z : Ideal .f32) (hz : z = (0 : EReal)) (x : FVec Ideal S48x48x64 .f32) (a b : Fin 50) (c : Fin 64) :
    padded50 z x (ix3 a b c) = padAt (fun i j => x (ix3 i j c)) a.val b.val := by
  subst hz
  unfold padded50 padAt
  pointwise
  exact ring_ladder 48 a.val b.val (fun h => x (ix3 ⟨a.val - 1, by omega⟩ ⟨b.val - 1, by omega⟩ c))

/-- The 24 × 24 × 128 maps `x` with a ring of `z` around them. -/
def padded26 (z : Ideal .f32) (x : FVec Ideal S24x24x128 .f32) : FVec Ideal S26x26x128 .f32 :=
  have v43 : FVec Ideal S1x24x128 .f32 := broadcast S1x24x128 z
  have v44 : FVec Ideal S25x24x128 .f32 := concatenate S25x24x128 0 [⟨S1x24x128, v43⟩, ⟨S24x24x128, x⟩] concatenates_S1x24x128_S24x24x128_S25x24x128_d0
  have v46 : FVec Ideal S26x24x128 .f32 := concatenate S26x24x128 0 [⟨S25x24x128, v44⟩, ⟨S1x24x128, v43⟩] concatenates_S25x24x128_S1x24x128_S26x24x128_d0
  have v47 : FVec Ideal S26x1x128 .f32 := broadcast S26x1x128 z
  have v48 : FVec Ideal S26x25x128 .f32 := concatenate S26x25x128 1 [⟨S26x1x128, v47⟩, ⟨S26x24x128, v46⟩] concatenates_S26x1x128_S26x24x128_S26x25x128_d1
  concatenate S26x26x128 1 [⟨S26x25x128, v48⟩, ⟨S26x1x128, v47⟩] concatenates_S26x25x128_S26x1x128_S26x26x128_d1

/-- The padded maps read at an index: `padAt` of the channel. -/
theorem padded26_apply (z : Ideal .f32) (hz : z = (0 : EReal)) (x : FVec Ideal S24x24x128 .f32) (a b : Fin 26) (c : Fin 128) :
    padded26 z x (ix3 a b c) = padAt (fun i j => x (ix3 i j c)) a.val b.val := by
  subst hz
  unfold padded26 padAt
  pointwise
  exact ring_ladder 24 a.val b.val (fun h => x (ix3 ⟨a.val - 1, by omega⟩ ⟨b.val - 1, by omega⟩ c))

end Cert.KernelIdeal.Val
-- ==== Proof.Cols.lean ====
/-
  The kernel's two convolutions: the taps' columns read at an index, and the product with the weight matrix as the layer's
  formula.
-/
module

public import proofs.«01_k».proof.Proof.Pads

@[expose] public section

set_option maxRecDepth 16384

noncomputable section

namespace Cert.KernelIdeal.Val

open Idealize.ShloMosaic Idealize.SL.Sem Cert.KernelIdeal.Gen Cert.Net

/-- One tap's view of the padded 98 × 98 × 4 maps: phase `(py, px)`, shifted by `(a, b)`, flattened. -/
def piece98 (xp : FVec Ideal S98x98x4 .f32) (py px a b : ℕ) (h1 : S49x2x49x2x4.Slices ![0, py, 0, px, 0] S49x1x49x1x4)
    (h2 : S49x49x4.Slices ![a, b, 0] S48x48x4) : FVec Ideal S2304x4 .f32 :=
  shapeCast S2304x4 (extractStridedSlice S48x48x4 ![a, b, 0] (shapeCast S49x49x4 (extractStridedSlice S49x1x49x1x4 ![0, py, 0, px, 0]
    (shapeCast S49x2x49x2x4 xp shapeCasts_S98x98x4_S49x2x49x2x4) h1) shapeCasts_S49x1x49x1x4_S49x49x4) h2) shapeCasts_S48x48x4_S2304x4

/-- Row `p` of the view is the padded map at stride 2. -/
theorem piece98_apply (xp : FVec Ideal S98x98x4 .f32) (py px a b : ℕ) (hpy : py < 2) (hpx : px < 2) (ha : a < 2) (hb : b < 2)
    (h1 : S49x2x49x2x4.Slices ![0, py, 0, px, 0] S49x1x49x1x4) (h2 : S49x49x4.Slices ![a, b, 0] S48x48x4) (p : Fin 2304) (c : Fin 4) :
    piece98 xp py px a b h1 h2 (ix2 p c)
      = xp (ix3 ⟨2 * (p.val / 48) + (2 * a + py), by omega⟩ ⟨2 * (p.val % 48) + (2 * b + px), by omega⟩ c) := by
  unfold piece98
  pointwise
  refine congrArg xp ?_
  simp only [ix3_inj, Fin.ext_iff]
  refine ⟨?_, ?_, trivial⟩ <;> omega

/-- The phase of tap `t`'s slice lies inside the padded input of the first layer. -/
theorem phase98 (t : Fin 16) : S49x2x49x2x4.Slices ![0, t.val / 4 % 2, 0, t.val % 2, 0] S49x1x49x1x4 := by
  revert t; decide

/-- The shifted window of tap `t` lies inside its phase. -/
theorem shift98 (t : Fin 16) : S49x49x4.Slices ![t.val / 8, t.val % 4 / 2, 0] S48x48x4 := by
  revert t; decide

/-- The sixteen taps' views of the padded maps, side by side. -/
def cols98 (xp : FVec Ideal S98x98x4 .f32) : FVec Ideal S2304x64 .f32 :=
  concatenate S2304x64 1 (List.ofFn fun t : Fin 16 => (⟨S2304x4, piece98 xp (t.val / 4 % 2) (t.val % 2) (t.val / 8) (t.val % 4 / 2)
      (phase98 t) (shift98 t)⟩ : (s : Shape) × (s.Idx → EReal)))
    concatenates_S2304x4_S2304x4_S2304x4_S2304x4_S2304x4_S2304x4_S2304x4_S2304x4_S2304x4_S2304x4_S2304x4_S2304x4_S2304x4_S2304x4_S2304x4_S2304x4_S2304x64_d1

/-- Column `4·t + c` of row `p` is channel `c` of the padded maps at tap `t`. -/
theorem cols98_apply (xp : FVec Ideal S98x98x4 .f32) (p : Fin 2304) (t : Fin 16) (c : Fin 4) :
    cols98 xp (ix2 p ⟨4 * t.val + c.val, by omega⟩)
      = xp (ix3 ⟨2 * (p.val / 48) + t.val / 4, by omega⟩ ⟨2 * (p.val % 48) + t.val % 4, by omega⟩ c) := by
  unfold cols98
  refine (concatenate_ofFn_apply (t := S2304x64) (s₁ := S2304x4) 1 _ _ rfl 4 rfl _ t ?_ (ix2 p c) ?_ ?_).trans ?_
  · simp only [ix2_1]; omega
  · show c.val = (4 * t.val + c.val) % 4; omega
  · intro b hb
    fin_cases b
    · rfl
    · exact absurd rfl hb
  · rw [piece98_apply _ _ _ _ _ (by omega) (by omega) (by omega) (by omega)]
    refine congrArg xp ?_
    simp only [ix3_inj, Fin.ext_iff]
    refine ⟨?_, ?_, trivial⟩ <;> omega

/-- One tap's view of the padded 50 × 50 × 64 maps: phase `(py, px)`, shifted by `(a, b)`, flattened. -/
def piece50 (xp : FVec Ideal S50x50x64 .f32) (py px a b : ℕ) (h1 : S25x2x25x2x64.Slices ![0, py, 0, px, 0] S25x1x25x1x64)
    (h2 : S25x25x64.Slices ![a, b, 0] S24x24x64) : FVec Ideal S576x64 .f32 :=
  shapeCast S576x64 (extractStridedSlice S24x24x64 ![a, b, 0] (shapeCast S25x25x64 (extractStridedSlice S25x1x25x1x64 ![0, py, 0, px, 0]
    (shapeCast S25x2x25x2x64 xp shapeCasts_S50x50x64_S25x2x25x2x64) h1) shapeCasts_S25x1x25x1x64_S25x25x64) h2) shapeCasts_S24x24x64_S576x64

/-- Row `p` of the view is the padded map at stride 2. -/
theorem piece50_apply (xp : FVec Ideal S50x50x64 .f32) (py px a b : ℕ) (hpy : py < 2) (hpx : px < 2) (ha : a < 2) (hb : b < 2)
    (h1 : S25x2x25x2x64.Slices ![0, py, 0, px, 0] S25x1x25x1x64) (h2 : S25x25x64.Slices ![a, b, 0] S24x24x64) (p : Fin 576) (c : Fin 64) :
    piece50 xp py px a b h1 h2 (ix2 p c)
      = xp (ix3 ⟨2 * (p.val / 24) + (2 * a + py), by omega⟩ ⟨2 * (p.val % 24) + (2 * b + px), by omega⟩ c) := by
  unfold piece50
  pointwise
  refine congrArg xp ?_
  simp only [ix3_inj, Fin.ext_iff]
  refine ⟨?_, ?_, trivial⟩ <;> omega

/-- The phase of tap `t`'s slice lies inside the padded input of the second layer. -/
theorem phase50 (t : Fin 16) : S25x2x25x2x64.Slices ![0, t.val / 4 % 2, 0, t.val % 2, 0] S25x1x25x1x64 := by
  revert t; decide

/-- The shifted window of tap `t` lies inside its phase. -/
theorem shift50 (t : Fin 16) : S25x25x64.Slices ![t.val / 8, t.val % 4 / 2, 0] S24x24x64 := by
  revert t; decide

/-- The sixteen taps' views of the padded maps, side by side. -/
def cols50 (xp : FVec Ideal S50x50x64 .f32) : FVec Ideal S576x1024 .f32 :=
  concatenate S576x1024 1 (List.ofFn fun t : Fin 16 => (⟨S576x64, piece50 xp (t.val / 4 % 2) (t.val % 2) (t.val / 8) (t.val % 4 / 2)
      (phase50 t) (shift50 t)⟩ : (s : Shape) × (s.Idx → EReal)))
    concatenates_S576x64_S576x64_S576x64_S576x64_S576x64_S576x64_S576x64_S576x64_S576x64_S576x64_S576x64_S576x64_S576x64_S576x64_S576x64_S576x64_S576x1024_d1

/-- Column `64·t + c` of row `p` is channel `c` of the padded maps at tap `t`. -/
theorem cols50_apply (xp : FVec Ideal S50x50x64 .f32) (p : Fin 576) (t : Fin 16) (c : Fin 64) :
    cols50 xp (ix2 p ⟨64 * t.val + c.val, by omega⟩)
      = xp (ix3 ⟨2 * (p.val / 24) + t.val / 4, by omega⟩ ⟨2 * (p.val % 24) + t.val % 4, by omega⟩ c) := by
  unfold cols50
  refine (concatenate_ofFn_apply (t := S576x1024) (s₁ := S576x64) 1 _ _ rfl 64 rfl _ t ?_ (ix2 p c) ?_ ?_).trans ?_
  · simp only [ix2_1]; omega
  · show c.val = (64 * t.val + c.val) % 64; omega
  · intro b hb
    fin_cases b
    · rfl
    · exact absurd rfl hb
  · rw [piece50_apply _ _ _ _ _ (by omega) (by omega) (by omega) (by omega)]
    refine congrArg xp ?_
    simp only [ix3_inj, Fin.ext_iff]
    refine ⟨?_, ?_, trivial⟩ <;> omega

/-- The tail of convolution 1: bias, positive part, and the rows put back in their places. -/
def act1 (z : FVec Ideal S2304x64 .f32) (b : FVec Ideal S1x64 .f32) : FVec Ideal S48x48x64 .f32 :=
  shapeCast S48x48x64 (maximumf (addf z (broadcastTo S2304x64 (shapeCast S1x64 b shapeCasts_S1x64_S1x64) broadcasts_S1x64_S2304x64))
    (broadcast S2304x64 (Scalar.ofBits .f32 0x00000000#32))) shapeCasts_S2304x64_S48x48x64

/-- The product of convolution 1: the taps' columns times the weight matrix. -/
def prod1 (x : FVec Ideal S96x96x4 .f32) (w : FVec Ideal S64x64 .f32) : FVec Ideal S2304x64 .f32 :=
  matmul dot_S2304x64_S64x64_S2304x64_1_0_0_1_n_n none (cols98 (padded98 (Scalar.sitofp .f32 0#32) x))
    (shapeCast S64x64 w shapeCasts_S64x64_S64x64) (constant S2304x64 .f32 0x00000000#32)

/-- Convolution 1 of the kernel is the layer's formula. -/
theorem act1_apply (x : FVec Ideal S96x96x4 .f32) (w : FVec Ideal S64x64 .f32) (b : FVec Ideal S1x64 .f32)
    (W : Fin 64 → Fin 4 → Fin 4 → Fin 4 → EReal) (B : Fin 64 → EReal)
    (hw : ∀ (t : Fin 16) (c : Fin 4) (o : Fin 64), w (ix2 ⟨4 * t.val + c.val, by omega⟩ o) = W o c (tapRow t) (tapCol t))
    (hb : ∀ o : Fin 64, b (ix2 0 o) = B o) (i j : Fin 48) (o : Fin 64) :
    act1 (prod1 x w) b (ix3 i j o) = relu (conv 48 48 (fun c y z => x (ix3 y z c)) W B) o i j := by
  have hz := zero_word
  unfold act1 prod1 relu conv
  generalize (Scalar.sitofp .f32 0#32 : Ideal .f32) = z at hz ⊢
  pointwise
  rw [sum_blocks 16 4 64 rfl, hb]
  refine congrArg₂ max (congrArg (· + B o) (Finset.sum_congr rfl fun t _ => Finset.sum_congr rfl fun c _ => ?_)) rfl
  rw [cols98_apply, hw, padded98_apply _ hz]
  refine congrArg₂ (· * ·) (congrArg₂ (padAt _) ?_ ?_) rfl <;> · simp only; omega

/-- The tail of convolution 2: bias, positive part, and the rows put back in their places. -/
def act2 (z : FVec Ideal S576x128 .f32) (b : FVec Ideal S1x128 .f32) : FVec Ideal S24x24x128 .f32 :=
  shapeCast S24x24x128 (maximumf (addf z (broadcastTo S576x128 (shapeCast S1x128 b shapeCasts_S1x128_S1x128) broadcasts_S1x128_S576x128))
    (broadcast S576x128 (Scalar.ofBits .f32 0x00000000#32))) shapeCasts_S576x128_S24x24x128

/-- The product of convolution 2: the taps' columns times the weight matrix. -/
def prod2 (x : FVec Ideal S48x48x64 .f32) (w : FVec Ideal S1024x128 .f32) : FVec Ideal S576x128 .f32 :=
  matmul dot_S576x1024_S1024x128_S576x128_1_0_0_1_n_n none (cols50 (padded50 (Scalar.sitofp .f32 0#32) x))
    (shapeCast S1024x128 w shapeCasts_S1024x128_S1024x128) (constant S576x128 .f32 0x00000000#32)

/-- Convolution 2 of the kernel is the layer's formula. -/
theorem act2_apply (x : FVec Ideal S48x48x64 .f32) (w : FVec Ideal S1024x128 .f32) (b : FVec Ideal S1x128 .f32)
    (W : Fin 128 → Fin 64 → Fin 4 → Fin 4 → EReal) (B : Fin 128 → EReal)
    (hw : ∀ (t : Fin 16) (c : Fin 64) (o : Fin 128), w (ix2 ⟨64 * t.val + c.val, by omega⟩ o) = W o c (tapRow t) (tapCol t))
    (hb : ∀ o : Fin 128, b (ix2 0 o) = B o) (i j : Fin 24) (o : Fin 128) :
    act2 (prod2 x w) b (ix3 i j o) = relu (conv 24 24 (fun c y z => x (ix3 y z c)) W B) o i j := by
  have hz := zero_word
  unfold act2 prod2 relu conv
  generalize (Scalar.sitofp .f32 0#32 : Ideal .f32) = z at hz ⊢
  pointwise
  rw [sum_blocks 16 64 1024 rfl, hb]
  refine congrArg₂ max (congrArg (· + B o) (Finset.sum_congr rfl fun t _ => Finset.sum_congr rfl fun c _ => ?_)) rfl
  rw [cols50_apply, hw, padded50_apply _ hz]
  refine congrArg₂ (· * ·) (congrArg₂ (padAt _) ?_ ?_) rfl <;> · simp only; omega

/-- The first product, as the kernel's body spells it. -/
theorem k0_pay3_eq (x : FVec Ideal S96x96x4 .f32) (w : FVec Ideal S64x64 .f32) : k0_pay3 x 0#32 w = prod1 x w := rfl

/-- The second convolution's columns, as the kernel's body spells them. -/
theorem k0_pay4_eq (z : FVec Ideal S2304x64 .f32) (b : FVec Ideal S1x64 .f32) :
    k0_pay4 z b = cols50 (padded50 (Scalar.sitofp .f32 0#32) (act1 z b)) := rfl

/-- The padded second feature maps, as the kernel's body spells them. -/
theorem k0_pay5_eq (x : FVec Ideal S48x48x64 .f32) (w : FVec Ideal S1024x128 .f32) (b : FVec Ideal S1x128 .f32) :
    k0_pay5 (cols50 (padded50 (Scalar.sitofp .f32 0#32) x)) w b = padded26 (Scalar.sitofp .f32 0#32) (act2 (prod2 x w) b) := rfl

end Cert.KernelIdeal.Val
-- ==== Proof.Deconv.lean ====
/-
  The kernel's two transposed convolutions: for each of the four parity classes of the output, the 2 × 2 views of the padded
  maps read at an index and their product with the class's weights; the classes interleaved; and the last layer, whose one
  product with a block-diagonal weight matrix treats the four classes at once.
-/
module

public import proofs.«01_k».proof.Proof.Cols

@[expose] public section

set_option maxRecDepth 16384

noncomputable section

namespace Cert.KernelIdeal.Val

open Idealize.ShloMosaic Idealize.SL.Sem Cert.KernelIdeal.Gen Cert.Net

/-- An 24 × 24 view of the padded 26 × 26 × 128 maps, shifted by `(a, b)` and flattened. -/
def view26 (xp : FVec Ideal S26x26x128 .f32) (a b : ℕ) (h : S26x26x128.Slices ![a, b, 0] S24x24x128) : FVec Ideal S576x128 .f32 :=
  shapeCast S576x128 (extractStridedSlice S24x24x128 ![a, b, 0] xp h) shapeCasts_S24x24x128_S576x128

/-- The views of one parity class lie inside the padded maps. -/
theorem inside26 (r q : Fin 2) (s : Fin 4) : S26x26x128.Slices ![r.val + s.val / 2, q.val + s.val % 2, 0] S24x24x128 := by
  revert r q s; decide

/-- The four views of one parity class side by side. -/
def win26 (xp : FVec Ideal S26x26x128 .f32) (r q : Fin 2) : FVec Ideal S576x512 .f32 :=
  concatenate S576x512 1 (List.ofFn fun s : Fin 4 => (⟨S576x128, view26 xp (r.val + s.val / 2) (q.val + s.val % 2) (inside26 r q s)⟩ :
      (s : Shape) × (s.Idx → EReal)))
    concatenates_S576x128_S576x128_S576x128_S576x128_S576x512_d1

/-- Column `128·s + c` of row `p` is channel `c` of the padded maps at tap `s` of the class. -/
theorem win26_apply (xp : FVec Ideal S26x26x128 .f32) (r q : Fin 2) (p : Fin 576) (s : Fin 4) (c : Fin 128) :
    win26 xp r q (ix2 p ⟨128 * s.val + c.val, by omega⟩)
      = xp (ix3 ⟨p.val / 24 + r.val + s.val / 2, by omega⟩ ⟨p.val % 24 + q.val + s.val % 2, by omega⟩ c) := by
  unfold win26
  refine (concatenate_ofFn_apply (t := S576x512) (s₁ := S576x128) 1 _ _ rfl 128 rfl _ s ?_ (ix2 p c) ?_ ?_).trans ?_
  · simp only [ix2_1]; omega
  · show c.val = (128 * s.val + c.val) % 128; omega
  · intro b hb
    fin_cases b
    · rfl
    · exact absurd rfl hb
  · unfold view26
    pointwise
    refine congrArg xp ?_
    simp only [ix3_inj, Fin.ext_iff]
    refine ⟨?_, ?_, trivial⟩ <;> omega

/-- An 48 × 48 view of the padded 50 × 50 × 64 maps, shifted by `(a, b)` and flattened. -/
def view50 (xp : FVec Ideal S50x50x64 .f32) (a b : ℕ) (h : S50x50x64.Slices ![a, b, 0] S48x48x64) : FVec Ideal S2304x64 .f32 :=
  shapeCast S2304x64 (extractStridedSlice S48x48x64 ![a, b, 0] xp h) shapeCasts_S48x48x64_S2304x64

/-- The views of one parity class lie inside the padded maps. -/
theorem inside50 (r q : Fin 2) (s : Fin 4) : S50x50x64.Slices ![r.val + s.val / 2, q.val + s.val % 2, 0] S48x48x64 := by
  revert r q s; decide

/-- The four views of one parity class side by side. -/
def win50 (xp : FVec Ideal S50x50x64 .f32) (r q : Fin 2) : FVec Ideal S2304x256 .f32 :=
  concatenate S2304x256 1 (List.ofFn fun s : Fin 4 => (⟨S2304x64, view50 xp (r.val + s.val / 2) (q.val + s.val % 2) (inside50 r q s)⟩ :
      (s : Shape) × (s.Idx → EReal)))
    concatenates_S2304x64_S2304x64_S2304x64_S2304x64_S2304x256_d1

/-- Column `64·s + c` of row `p` is channel `c` of the padded maps at tap `s` of the class. -/
theorem win50_apply (xp : FVec Ideal S50x50x64 .f32) (r q : Fin 2) (p : Fin 2304) (s : Fin 4) (c : Fin 64) :
    win50 xp r q (ix2 p ⟨64 * s.val + c.val, by omega⟩)
      = xp (ix3 ⟨p.val / 48 + r.val + s.val / 2, by omega⟩ ⟨p.val % 48 + q.val + s.val % 2, by omega⟩ c) := by
  unfold win50
  refine (concatenate_ofFn_apply (t := S2304x256) (s₁ := S2304x64) 1 _ _ rfl 64 rfl _ s ?_ (ix2 p c) ?_ ?_).trans ?_
  · simp only [ix2_1]; omega
  · show c.val = (64 * s.val + c.val) % 64; omega
  · intro b hb
    fin_cases b
    · rfl
    · exact absurd rfl hb
  · unfold view50
    pointwise
    refine congrArg xp ?_
    simp only [ix3_inj, Fin.ext_iff]
    refine ⟨?_, ?_, trivial⟩ <;> omega

/-- One class of the first transposed convolution: product, bias, positive part, and the rows put back in their places. -/
def class3 (xp : FVec Ideal S26x26x128 .f32) (r q : Fin 2) (w : FVec Ideal S1x512x64 .f32) (b : FVec Ideal S1x64 .f32) : FVec Ideal S24x24x64 .f32 :=
  k0_pay13 (win26 xp r q) w b

/-- One class's pixel as the layer's formula at the pixel's place in the output. -/
theorem class3_apply (x : FVec Ideal S24x24x128 .f32) (z : Ideal .f32) (hz : z = (0 : EReal)) (r q : Fin 2) (w : FVec Ideal S1x512x64 .f32) (b : FVec Ideal S1x64 .f32)
    (W : Fin 128 → Fin 64 → Fin 4 → Fin 4 → EReal) (B : Fin 64 → EReal)
    (hw : ∀ (s : Fin 4) (c : Fin 128) (o : Fin 64), w (ix3 0 ⟨128 * s.val + c.val, by omega⟩ o)
      = W c o (flipTap r.val (s.val / 2)) (flipTap q.val (s.val % 2)))
    (hb : ∀ o : Fin 64, b (ix2 0 o) = B o) (i j : Fin 24) (o : Fin 64) (y v : Fin 48) (hy : y.val = 2 * i.val + r.val) (hv : v.val = 2 * j.val + q.val) :
    class3 (padded26 z x) r q w b (ix3 i j o) = relu (deconv 48 48 (fun c y v => x (ix3 y v c)) W B) o y v := by
  have e1 : y.val / 2 = i.val := by omega
  have e2 : y.val % 2 = r.val := by omega
  have e3 : v.val / 2 = j.val := by omega
  have e4 : v.val % 2 = q.val := by omega
  unfold class3 k0_pay13 relu deconv
  simp only [e1, e2, e3, e4]
  pointwise
  rw [sum_blocks 4 128 512 rfl, hb]
  refine congrArg₂ max (congrArg (· + B o) (Finset.sum_congr rfl fun s _ => Finset.sum_congr rfl fun c _ => ?_)) rfl
  rw [win26_apply, hw, padded26_apply _ hz]
  refine congrArg₂ (· * ·) (congrArg₂ (padAt _) ?_ ?_) rfl <;> · simp only; omega

/-- The four classes' pixels put back in their places. -/
def weave (a b c d : FVec Ideal S24x24x64 .f32) : FVec Ideal S48x48x64 .f32 :=
  have v251 : FVec Ideal S24x24x2x64 .f32 := concatenate S24x24x2x64 2 [⟨S24x24x1x64, shapeCast S24x24x1x64 a shapeCasts_S24x24x64_S24x24x1x64⟩,
    ⟨S24x24x1x64, shapeCast S24x24x1x64 b shapeCasts_S24x24x64_S24x24x1x64⟩] concatenates_S24x24x1x64_S24x24x1x64_S24x24x2x64_d2
  have v254 : FVec Ideal S24x24x2x64 .f32 := concatenate S24x24x2x64 2 [⟨S24x24x1x64, shapeCast S24x24x1x64 c shapeCasts_S24x24x64_S24x24x1x64⟩,
    ⟨S24x24x1x64, shapeCast S24x24x1x64 d shapeCasts_S24x24x64_S24x24x1x64⟩] concatenates_S24x24x1x64_S24x24x1x64_S24x24x2x64_d2
  shapeCast S48x48x64 (concatenate S24x2x24x2x64 1 [⟨S24x1x24x2x64, shapeCast S24x1x24x2x64 v251 shapeCasts_S24x24x2x64_S24x1x24x2x64⟩,
    ⟨S24x1x24x2x64, shapeCast S24x1x24x2x64 v254 shapeCasts_S24x24x2x64_S24x1x24x2x64⟩] concatenates_S24x1x24x2x64_S24x1x24x2x64_S24x2x24x2x64_d1)
    shapeCasts_S24x2x24x2x64_S48x48x64

/-- A woven pixel is the pixel of the class its row's and column's parities name. -/
theorem weave_apply (a b c d : FVec Ideal S24x24x64 .f32) (y v : Fin 48) (o : Fin 64) :
    weave a b c d (ix3 y v o) = (if y.val % 2 = 0 then (if v.val % 2 = 0 then a else b) else (if v.val % 2 = 0 then c else d))
      (ix3 ⟨y.val / 2, by omega⟩ ⟨v.val / 2, by omega⟩ o) := by
  unfold weave
  pointwise
  by_cases h1 : y.val % 2 = 0 <;> by_cases h2 : v.val % 2 = 0 <;> simp [h1, h2]

/-- The first transposed convolution of the kernel, its four classes woven, is the layer's formula. -/
theorem weave_class3 (x : FVec Ideal S24x24x128 .f32) (z : Ideal .f32) (hz : z = (0 : EReal)) (w : Fin 2 → Fin 2 → FVec Ideal S1x512x64 .f32)
    (b : FVec Ideal S1x64 .f32) (W : Fin 128 → Fin 64 → Fin 4 → Fin 4 → EReal) (B : Fin 64 → EReal)
    (hw : ∀ (r q : Fin 2) (s : Fin 4) (c : Fin 128) (o : Fin 64), w r q (ix3 0 ⟨128 * s.val + c.val, by omega⟩ o)
      = W c o (flipTap r.val (s.val / 2)) (flipTap q.val (s.val % 2)))
    (hb : ∀ o : Fin 64, b (ix2 0 o) = B o) (y v : Fin 48) (o : Fin 64) :
    weave (class3 (padded26 z x) 0 0 (w 0 0) b) (class3 (padded26 z x) 0 1 (w 0 1) b) (class3 (padded26 z x) 1 0 (w 1 0) b)
      (class3 (padded26 z x) 1 1 (w 1 1) b) (ix3 y v o) = relu (deconv 48 48 (fun c y v => x (ix3 y v c)) W B) o y v := by
  have key := fun (r q : Fin 2) (i j : Fin 24) => class3_apply x z hz r q (w r q) b W B (hw r q) hb i j o y v
  rw [weave_apply]
  split_ifs with h1 h2 h2
  · exact key 0 0 _ _ (by simp only [Fin.val_zero]; omega) (by simp only [Fin.val_zero]; omega)
  · exact key 0 1 _ _ (by simp only [Fin.val_zero]; omega) (by simp only [Fin.val_one]; omega)
  · exact key 1 0 _ _ (by simp only [Fin.val_one]; omega) (by simp only [Fin.val_zero]; omega)
  · exact key 1 1 _ _ (by simp only [Fin.val_one]; omega) (by simp only [Fin.val_one]; omega)

/-- The row parity of class `g`. -/
def rowPar (g : Fin 4) : Fin 2 := ⟨g.val / 2, by omega⟩

/-- The column parity of class `g`. -/
def colPar (g : Fin 4) : Fin 2 := ⟨g.val % 2, by omega⟩

/-- The four classes' views side by side. -/
def all50 (xp : FVec Ideal S50x50x64 .f32) : FVec Ideal S2304x1024 .f32 :=
  concatenate S2304x1024 1 (List.ofFn fun g : Fin 4 => (⟨S2304x256, win50 xp (rowPar g) (colPar g)⟩ : (s : Shape) × (s.Idx → EReal)))
    concatenates_S2304x256_S2304x256_S2304x256_S2304x256_S2304x1024_d1

/-- Column `256·g + k` of the whole is column `k` of class `g`. -/
theorem all50_apply (xp : FVec Ideal S50x50x64 .f32) (p : Fin 2304) (g : Fin 4) (k : Fin 256) :
    all50 xp (ix2 p ⟨256 * g.val + k.val, by omega⟩) = win50 xp (rowPar g) (colPar g) (ix2 p k) := by
  unfold all50
  refine concatenate_ofFn_apply (t := S2304x1024) (s₁ := S2304x256) 1 _ _ rfl 256 rfl _ g ?_ (ix2 p k) ?_ ?_
  · simp only [ix2_1]; omega
  · show k.val = (256 * g.val + k.val) % 256; omega
  · intro b hb
    fin_cases b
    · rfl
    · exact absurd rfl hb

/-- The last layer's block: one product over all classes, bias, hyperbolic tangent, and the rows put back in their places. -/
def last (xp : FVec Ideal S50x50x64 .f32) (w : FVec Ideal S1024x12 .f32) (b : FVec Ideal S1x12 .f32) : FVec Ideal S1x48x48x12 .f32 :=
  shapeCast S1x48x48x12 (shapeCast S48x48x12 (tanh (addf
    (matmul dot_S2304x1024_S1024x12_S2304x12_1_0_0_1_n_n none (all50 xp) (shapeCast S1024x12 w shapeCasts_S1024x12_S1024x12) (constant S2304x12 .f32 0x00000000#32))
    (broadcastTo S2304x12 (shapeCast S1x12 b shapeCasts_S1x12_S1x12) broadcasts_S1x12_S2304x12))) shapeCasts_S2304x12_S48x48x12) shapeCasts_S48x48x12_S1x48x48x12

/-- Column `3·h + o` of the last layer's block is channel `o` of the pixel of class `h`: the other classes' rows of the
    block-diagonal weights are zero and contribute nothing. -/
theorem last_apply (x : FVec Ideal S48x48x64 .f32) (z : Ideal .f32) (hz : z = (0 : EReal)) (w : FVec Ideal S1024x12 .f32) (b : FVec Ideal S1x12 .f32)
    (W : Fin 64 → Fin 3 → Fin 4 → Fin 4 → EReal) (B : Fin 3 → EReal)
    (hw : ∀ (g s : Fin 4) (c : Fin 64) (h : Fin 4) (o : Fin 3), w (ix2 ⟨256 * g.val + (64 * s.val + c.val), by omega⟩ ⟨3 * h.val + o.val, by omega⟩)
      = if g = h then W c o (flipTap (h.val / 2) (s.val / 2)) (flipTap (h.val % 2) (s.val % 2)) else 0)
    (hb : ∀ (h : Fin 4) (o : Fin 3), b (ix2 0 ⟨3 * h.val + o.val, by omega⟩) = B o)
    (i j : Fin 48) (h : Fin 4) (o : Fin 3) (y v : Fin 96) (hy : y.val = 2 * i.val + h.val / 2) (hv : v.val = 2 * j.val + h.val % 2) :
    last (padded50 z x) w b (ix4 0 i j ⟨3 * h.val + o.val, by omega⟩) = Ideal.tanh (deconv 96 96 (fun c y v => x (ix3 y v c)) W B o y v) := by
  have e1 : y.val / 2 = i.val := by omega
  have e2 : y.val % 2 = h.val / 2 := by omega
  have e3 : v.val / 2 = j.val := by omega
  have e4 : v.val % 2 = h.val % 2 := by omega
  unfold last deconv
  simp only [e1, e2, e3, e4]
  pointwise
  rw [sum_blocks 4 256 1024 rfl, hb]
  refine congrArg Ideal.tanh (congrArg (· + B o) ?_)
  rw [Finset.sum_eq_single h]
  · rw [sum_blocks 4 64 256 rfl]
    refine Finset.sum_congr rfl fun s _ => Finset.sum_congr rfl fun c _ => ?_
    rw [all50_apply, hw, if_pos rfl, win50_apply, padded50_apply _ hz]
    refine congrArg₂ (· * ·) (congrArg₂ (padAt _) ?_ ?_) rfl <;> · simp only [rowPar, colPar]; omega
  · intro g _ hg
    rw [sum_blocks 4 64 256 rfl]
    refine Finset.sum_eq_zero fun s _ => Finset.sum_eq_zero fun c _ => ?_
    rw [hw, if_neg hg, mul_zero]
  · exact fun hh => absurd (Finset.mem_univ _) hh

/-- The whole chain of the kernel's body after the padded second maps, in the words of this module. -/
theorem tail_eq (xp : FVec Ideal S26x26x128 .f32) (v153 : FVec Ideal S576x1024 .f32) (w2 : FVec Ideal S1024x128 .f32) (b2 : FVec Ideal S1x128 .f32)
    (hxp : k0_pay5 v153 w2 b2 = xp) (w3 : Fin 2 → Fin 2 → FVec Ideal S1x512x64 .f32) (b3 : FVec Ideal S1x64 .f32)
    (w4 : FVec Ideal S1024x12 .f32) (b4 : FVec Ideal S1x12 .f32) :
    (let c00 := k0_pay13 (k0_pay6 v153 w2 b2) (w3 0 0) b3
     let c01 := k0_pay14 (k0_pay7 v153 w2 b2) (w3 0 1) b3
     let c10 := k0_pay15 (k0_pay8 v153 w2 b2) (w3 1 0) b3
     let c11 := k0_pay16 (k0_pay9 v153 w2 b2) (k0_pay10 v153 w2 b2) (k0_pay11 v153 w2 b2) (k0_pay12 v153 w2 b2) (w3 1 1)
     k0_pay1 (k0_pay17 c00 c01 c10 c11 b3) (k0_pay18 c00 c01 c10 c11 b3) (k0_pay19 c00 c01 c10 c11 b3) (k0_pay20 c00 c01 c10 c11 b3)
       (k0_pay21 c00 c01 c10 c11 b3) (k0_pay22 c00 c01 c10 c11 b3) w4 b4)
    = last (padded50 (Scalar.sitofp .f32 0#32) (weave (class3 xp 0 0 (w3 0 0) b3) (class3 xp 0 1 (w3 0 1) b3) (class3 xp 1 0 (w3 1 0) b3)
        (class3 xp 1 1 (w3 1 1) b3))) w4 b4 := by
  subst hxp
  rfl

end Cert.KernelIdeal.Val
-- ==== Proof.Block.lean ====
/-
  One grid point of the kernel: the output block it leaves, as a function of its input blocks, is the network on the frame those
  blocks hold, four pixels of three channels per row of twelve.
-/
module

public import proofs.«01_k».proof.Proof.Gen.KernelIdeal.Frame
public import proofs.«01_k».proof.Proof.Heat
public import proofs.«01_k».proof.Proof.Deconv
public import Idealize.ShloMosaic.Lib.Pipeline.Value

@[expose] public section

set_option maxRecDepth 16384

noncomputable section

namespace Cert.KernelIdeal.Val

open Idealize.ShloMosaic Cert.KernelIdeal Cert.KernelIdeal.Gen Cert.Net

/-- The third layer's weights for outputs of row parity `r` and column parity `q`. -/
def class3w (x : FVec Ideal S4x512x64 .f32) (r q : Fin 2) : FVec Ideal S1x512x64 .f32 :=
  fun i => x (ix3 (⟨2 * r.val + q.val, by omega⟩ : Fin 4) (i 1 : Fin 512) (i 2 : Fin 64))

/-- A load of one class's weights reads that class of the stack. -/
theorem ld_class (x : FVec Ideal S4x512x64 .f32) (r q : Fin 2) (g : ℕ) (hg : g = 2 * r.val + q.val)
    (inb : ∀ a, ![g, 0, 0] a + S1x512x64.size a ≤ S4x512x64.size a) :
    View.ld (Val := Elt Ideal) (e' := .f32) x (Rect.unit (s := S4x512x64) ![g, 0, 0] S1x512x64.size inb) = class3w x r q := by
  funext i
  show x _ = x _
  refine congrArg x (funext fun a => ?_)
  have h0 : (i 0).val = 0 := by have h : (i 0).val < 1 := (i 0).isLt; omega
  match a with
  | ⟨0, _⟩ => exact Fin.ext (show g + 1 * (i 0).val = 2 * r.val + q.val by omega)
  | ⟨1, _⟩ => exact Fin.ext (show 0 + 1 * (i 1).val = (i 1).val by omega)
  | ⟨2, _⟩ => exact Fin.ext (show 0 + 1 * (i 2).val = (i 2).val by omega)

/-- The block a grid point leaves, through the layers' own functions. -/
theorem block_eq (x0 : FVec Ideal S1x3x96x96 .f32) (x1 : FVec Ideal S1x2x68 .f32) (x2 : FVec Ideal S64x64 .f32) (x3 : FVec Ideal S1x64 .f32)
    (x4 : FVec Ideal S1024x128 .f32) (x5 : FVec Ideal S1x128 .f32) (x6 : FVec Ideal S4x512x64 .f32) (x7 : FVec Ideal S1x64 .f32)
    (x8 : FVec Ideal S1024x12 .f32) (x9 : FVec Ideal S1x12 .f32) (xp : FVec Ideal S26x26x128 .f32)
    (hxp : padded26 (Scalar.sitofp .f32 0#32) (act2 (prod2 (act1 (prod1 (k0_pay2 x1 x0) x2) x3) x4) x5) = xp) :
    out0_10 (F := Ideal) x0 x1 x2 x3 x4 x5 x6 x7 x8 x9
      = last (padded50 (Scalar.sitofp .f32 0#32) (weave (class3 xp 0 0 (class3w x6 0 0) x7) (class3 xp 0 1 (class3w x6 0 1) x7)
          (class3 xp 1 0 (class3w x6 1 0) x7) (class3 xp 1 1 (class3w x6 1 1) x7))) x8 x9 := by
  have z2 : (![0, 0] : Fin 2 → ℕ) = fun _ => 0 := by decide
  have z3 : (![0, 0, 0] : Fin 3 → ℕ) = fun _ => 0 := by decide
  have z4 : (![0, 0, 0, 0] : Fin 4 → ℕ) = fun _ => 0 := by decide
  have e0 : View.ld (Val := Elt Ideal) (e' := .f32) x0 r0_1 = x0 := View.ld_unit_zero (Val := Elt Ideal) (e := .f32) (S := S1x3x96x96) z4 _ x0
  have e1 : View.ld (Val := Elt Ideal) (e' := .f32) x1 r0_0 = x1 := View.ld_unit_zero (Val := Elt Ideal) (e := .f32) (S := S1x2x68) z3 _ x1
  have e2 : View.ld (Val := Elt Ideal) (e' := .f32) x2 r0_2 = x2 := View.ld_unit_zero (Val := Elt Ideal) (e := .f32) (S := S64x64) z2 _ x2
  have e3 : View.ld (Val := Elt Ideal) (e' := .f32) x3 r0_3 = x3 := View.ld_unit_zero (Val := Elt Ideal) (e := .f32) (S := S1x64) z2 _ x3
  have e4 : View.ld (Val := Elt Ideal) (e' := .f32) x4 r0_4 = x4 := View.ld_unit_zero (Val := Elt Ideal) (e := .f32) (S := S1024x128) z2 _ x4
  have e5 : View.ld (Val := Elt Ideal) (e' := .f32) x5 r0_5 = x5 := View.ld_unit_zero (Val := Elt Ideal) (e := .f32) (S := S1x128) z2 _ x5
  have e7 : View.ld (Val := Elt Ideal) (e' := .f32) x7 r0_3 = x7 := View.ld_unit_zero (Val := Elt Ideal) (e := .f32) (S := S1x64) z2 _ x7
  have e8 : View.ld (Val := Elt Ideal) (e' := .f32) x8 r0_10 = x8 := View.ld_unit_zero (Val := Elt Ideal) (e := .f32) (S := S1024x12) z2 _ x8
  have e9 : View.ld (Val := Elt Ideal) (e' := .f32) x9 r0_11 = x9 := View.ld_unit_zero (Val := Elt Ideal) (e := .f32) (S := S1x12) z2 _ x9
  have e60 : View.ld (Val := Elt Ideal) (e' := .f32) x6 r0_6 = class3w x6 0 0 := ld_class x6 0 0 0 rfl _
  have e61 : View.ld (Val := Elt Ideal) (e' := .f32) x6 r0_7 = class3w x6 0 1 := ld_class x6 0 1 1 rfl _
  have e62 : View.ld (Val := Elt Ideal) (e' := .f32) x6 r0_8 = class3w x6 1 0 := ld_class x6 1 0 2 rfl _
  have e63 : View.ld (Val := Elt Ideal) (e' := .f32) x6 r0_9 = class3w x6 1 1 := ld_class x6 1 1 3 rfl _
  unfold_out out0_10
  refine (View.canon_unit_zero (S := S1x48x48x12) z4 _ _).trans ?_
  rw [e0, e1, e2, e3, e4, e5, e7, e8, e9, e60, e61, e62, e63, k0_pay3_eq, k0_pay4_eq]
  exact tail_eq xp _ x4 x5 ((k0_pay5_eq _ _ _).trans hxp) (class3w x6) x7 x8 x9

/-- The block a grid point leaves is the network on frame `n`, where the point's blocks are the frame's image and landmarks and
    the weights laid out tap by tap: row `i`, column `j` holds the four pixels of rows `2i`, `2i+1` and columns `2j`, `2j+1`. -/
theorem block_apply (a0 : FVec Ideal S8x3x96x96 .f32) (a1 : FVec Ideal S8x32x136 .f32) (a2 : FVec Ideal S64x4x4x4 .f32)
    (a3 : FVec Ideal S64 .f32) (a4 : FVec Ideal S128x64x4x4 .f32) (a5 : FVec Ideal S128 .f32) (a6 : FVec Ideal S128x64x4x4 .f32)
    (a7 : FVec Ideal S64 .f32) (a8 : FVec Ideal S64x3x4x4 .f32) (a9 : FVec Ideal S3 .f32) (n : Fin 256)
    (x0 : FVec Ideal S1x3x96x96 .f32) (x1 : FVec Ideal S1x2x68 .f32) (x2 : FVec Ideal S64x64 .f32) (x3 : FVec Ideal S1x64 .f32)
    (x4 : FVec Ideal S1024x128 .f32) (x5 : FVec Ideal S1x128 .f32) (x6 : FVec Ideal S4x512x64 .f32) (x7 : FVec Ideal S1x64 .f32)
    (x8 : FVec Ideal S1024x12 .f32) (x9 : FVec Ideal S1x12 .f32)
    (h0 : ∀ (c : Fin 3) (y x : Fin 96), x0 (ix4 0 c y x) = a0 (ix4 ⟨n.val / 32, by omega⟩ c y x))
    (h1 : ∀ (k : Fin 2) (l : Fin 68), x1 (ix3 0 k l) = a1 (ix3 ⟨n.val / 32, by omega⟩ ⟨n.val % 32, by omega⟩ ⟨l.val * 2 + k.val, by omega⟩))
    (h2 : ∀ (t : Fin 16) (c : Fin 4) (o : Fin 64), x2 (ix2 ⟨4 * t.val + c.val, by omega⟩ o) = a2 (ix4 o c (tapRow t) (tapCol t)))
    (h3 : ∀ o : Fin 64, x3 (ix2 0 o) = a3 (ix1 o))
    (h4 : ∀ (t : Fin 16) (c : Fin 64) (o : Fin 128), x4 (ix2 ⟨64 * t.val + c.val, by omega⟩ o) = a4 (ix4 o c (tapRow t) (tapCol t)))
    (h5 : ∀ o : Fin 128, x5 (ix2 0 o) = a5 (ix1 o))
    (h6 : ∀ (r q : Fin 2) (s : Fin 4) (c : Fin 128) (o : Fin 64), x6 (ix3 ⟨2 * r.val + q.val, by omega⟩ ⟨128 * s.val + c.val, by omega⟩ o)
      = a6 (ix4 c o (flipTap r.val (s.val / 2)) (flipTap q.val (s.val % 2))))
    (h7 : ∀ o : Fin 64, x7 (ix2 0 o) = a7 (ix1 o))
    (h8 : ∀ (g s : Fin 4) (c : Fin 64) (h : Fin 4) (o : Fin 3), x8 (ix2 ⟨256 * g.val + (64 * s.val + c.val), by omega⟩ ⟨3 * h.val + o.val, by omega⟩)
      = if g = h then a8 (ix4 c o (flipTap (h.val / 2) (s.val / 2)) (flipTap (h.val % 2) (s.val % 2))) else 0)
    (h9 : ∀ (h : Fin 4) (o : Fin 3), x9 (ix2 0 ⟨3 * h.val + o.val, by omega⟩) = a9 (ix1 o))
    (i j : Fin 48) (h : Fin 4) (o : Fin 3) (y v : Fin 96) (hy : y.val = 2 * i.val + h.val / 2) (hv : v.val = 2 * j.val + h.val % 2) :
    out0_10 (F := Ideal) x0 x1 x2 x3 x4 x5 x6 x7 x8 x9 (ix4 0 i j ⟨3 * h.val + o.val, by omega⟩)
      = network a0 a1 a2 a3 a4 a5 a6 a7 a8 a9 n o y v := by
  rw [block_eq x0 x1 x2 x3 x4 x5 x6 x7 x8 x9 _ rfl,
    last_apply _ _ zero_word x8 x9 (fun c o a b => a8 (ix4 c o a b)) (fun o => a9 (ix1 o)) h8 h9 i j h o y v hy hv]
  unfold network
  refine congrArg (fun m => Ideal.tanh (deconv 96 96 m _ _ o y v)) (funext fun c => funext fun i => funext fun j => ?_)
  rw [weave_class3 _ _ zero_word (class3w x6) x7 (fun c o a b => a6 (ix4 c o a b)) (fun o => a7 (ix1 o)) h6 h7]
  refine congrArg (fun m => relu (deconv 48 48 m _ _) c i j) (funext fun c => funext fun i => funext fun j => ?_)
  rw [act2_apply _ x4 x5 (fun o c a b => a4 (ix4 o c a b)) (fun o => a5 (ix1 o)) h4 h5]
  refine congrArg (fun m => relu (conv 24 24 m _ _) c i j) (funext fun c => funext fun i => funext fun j => ?_)
  rw [act1_apply _ x2 x3 (fun o c a b => a2 (ix4 o c a b)) (fun o => a3 (ix1 o)) h2 h3]
  refine congrArg (fun m => relu (conv 48 48 m _ _) c i j) (funext fun c => funext fun i => funext fun j => ?_)
  rw [k0_pay2_apply]
  simp only [h0, h1]
  rfl

end Cert.KernelIdeal.Val
-- ==== Proof.HostIn.lean ====
/-
  What the host lays out before the kernel starts, read at an index: the convolution weights tap by tap, the biases as rows, and
  each frame's landmarks.
-/
module

public import proofs.«01_k».proof.Proof.Gen.KernelIdeal.Frame
public import proofs.«01_k».proof.Proof.Net

@[expose] public section

set_option maxRecDepth 16384

noncomputable section

namespace Cert.KernelIdeal.Val

open Idealize.ShloMosaic Idealize.ShloMosaic.TcCoe Cert.KernelIdeal Cert.KernelIdeal.Gen Cert.Net

/-- One tap of the weights. -/
def tap3 (w : FVec Ideal S128x64x4x4 .f32) (off : Fin 4 → ℕ) (h : S128x64x4x4.Slices off S128x64x1x1) : FVec Ideal S128x64 .f32 :=
  shapeCast S128x64 (extractStridedSlice S128x64x1x1 off w h) shapeCasts_S128x64x1x1_S128x64

/-- Four taps, one above the other. -/
def column3 (a b d e : FVec Ideal S128x64 .f32) : FVec Ideal S512x64 .f32 :=
  concatenate S512x64 0 [⟨S128x64, a⟩, ⟨S128x64, b⟩, ⟨S128x64, d⟩, ⟨S128x64, e⟩] concatenates_S128x64_S128x64_S128x64_S128x64_S512x64_d0

/-- The columns of the four classes of output pixels, stacked. -/
def stack3 (a b d e : FVec Ideal S512x64 .f32) : FVec Ideal S4x512x64 .f32 :=
  have up : FVec Ideal S512x64 .f32 → FVec Ideal S1x512x64 .f32 := broadcastInDim S1x512x64 ![1, 2] bcast_S512x64_S1x512x64_1_2
  concatenate S4x512x64 0 [⟨S1x512x64, up a⟩, ⟨S1x512x64, up b⟩, ⟨S1x512x64, up d⟩, ⟨S1x512x64, up e⟩]
    concatenates_S1x512x64_S1x512x64_S1x512x64_S1x512x64_S4x512x64_d0

/-- One tap of the weights. -/
def tap4 (w : FVec Ideal S64x3x4x4 .f32) (off : Fin 4 → ℕ) (h : S64x3x4x4.Slices off S64x3x1x1) : FVec Ideal S64x3 .f32 :=
  shapeCast S64x3 (extractStridedSlice S64x3x1x1 off w h) shapeCasts_S64x3x1x1_S64x3

/-- Four taps, one above the other. -/
def column4 (a b d e : FVec Ideal S64x3 .f32) : FVec Ideal S256x3 .f32 :=
  concatenate S256x3 0 [⟨S64x3, a⟩, ⟨S64x3, b⟩, ⟨S64x3, d⟩, ⟨S64x3, e⟩] concatenates_S64x3_S64x3_S64x3_S64x3_S256x3_d0

/-- The columns of the four classes of output pixels, stacked. -/
def stack4 (a b d e : FVec Ideal S256x3 .f32) : FVec Ideal S4x256x3 .f32 :=
  have up : FVec Ideal S256x3 .f32 → FVec Ideal S1x256x3 .f32 := broadcastInDim S1x256x3 ![1, 2] bcast_S256x3_S1x256x3_1_2
  concatenate S4x256x3 0 [⟨S1x256x3, up a⟩, ⟨S1x256x3, up b⟩, ⟨S1x256x3, up d⟩, ⟨S1x256x3, up e⟩]
    concatenates_S1x256x3_S1x256x3_S1x256x3_S1x256x3_S4x256x3_d0

/-- Class `g`'s columns of the last layer's stack. -/
def part4 (x : FVec Ideal S4x256x3 .f32) (off : Fin 3 → ℕ) (h : S4x256x3.Slices off S1x256x3) : FVec Ideal S256x3 .f32 :=
  shapeCast S256x3 (extractStridedSlice S1x256x3 off x h) shapeCasts_S1x256x3_S256x3

/-- Four blocks as one block-diagonal matrix: block `g`'s rows meet block `g`'s columns, zeros elsewhere. -/
def diag4 (a b d e : FVec Ideal S256x3 .f32) : FVec Ideal S1024x12 .f32 :=
  have z : FVec Ideal S_ .f32 := constant S_ .f32 0x00000000#32
  concatenate S1024x12 0 [
    ⟨S256x12, pad S256x12 ![0, 0] ![0, 9] ![0, 0] a z pads_S256x3_S256x12_000_090 h_S_⟩,
    ⟨S256x12, pad S256x12 ![0, 3] ![0, 6] ![0, 0] b z pads_S256x3_S256x12_000_360 h_S_⟩,
    ⟨S256x12, pad S256x12 ![0, 6] ![0, 3] ![0, 0] d z pads_S256x3_S256x12_000_630 h_S_⟩,
    ⟨S256x12, pad S256x12 ![0, 9] ![0, 0] ![0, 0] e z pads_S256x3_S256x12_000_900 h_S_⟩]
    concatenates_S256x12_S256x12_S256x12_S256x12_S1024x12_d0

/-- The third layer's weights, class by class. -/
def classes3 (w : FVec Ideal S128x64x4x4 .f32) : FVec Ideal S4x512x64 .f32 := stack3
    (column3 (tap3 w ![0, 0, 3, 3] slices_S128x64x4x4_S128x64x1x1_0_0_3_3)
      (tap3 w ![0, 0, 3, 1] slices_S128x64x4x4_S128x64x1x1_0_0_3_1)
      (tap3 w ![0, 0, 1, 3] slices_S128x64x4x4_S128x64x1x1_0_0_1_3)
      (tap3 w ![0, 0, 1, 1] slices_S128x64x4x4_S128x64x1x1_0_0_1_1))
    (column3 (tap3 w ![0, 0, 3, 2] slices_S128x64x4x4_S128x64x1x1_0_0_3_2)
      (tap3 w ![0, 0, 3, 0] slices_S128x64x4x4_S128x64x1x1_0_0_3_0)
      (tap3 w ![0, 0, 1, 2] slices_S128x64x4x4_S128x64x1x1_0_0_1_2)
      (tap3 w ![0, 0, 1, 0] slices_S128x64x4x4_S128x64x1x1_0_0_1_0))
    (column3 (tap3 w ![0, 0, 2, 3] slices_S128x64x4x4_S128x64x1x1_0_0_2_3)
      (tap3 w ![0, 0, 2, 1] slices_S128x64x4x4_S128x64x1x1_0_0_2_1)
      (tap3 w ![0, 0, 0, 3] slices_S128x64x4x4_S128x64x1x1_0_0_0_3)
      (tap3 w ![0, 0, 0, 1] slices_S128x64x4x4_S128x64x1x1_0_0_0_1))
    (column3 (tap3 w ![0, 0, 2, 2] slices_S128x64x4x4_S128x64x1x1_0_0_2_2)
      (tap3 w ![0, 0, 2, 0] slices_S128x64x4x4_S128x64x1x1_0_0_2_0)
      (tap3 w ![0, 0, 0, 2] slices_S128x64x4x4_S128x64x1x1_0_0_0_2)
      (tap3 w ![0, 0, 0, 0] slices_S128x64x4x4_S128x64x1x1_0_0_0_0))

/-- The last layer's weights, class by class. -/
def classes4 (w : FVec Ideal S64x3x4x4 .f32) : FVec Ideal S4x256x3 .f32 := stack4
    (column4 (tap4 w ![0, 0, 3, 3] slices_S64x3x4x4_S64x3x1x1_0_0_3_3)
      (tap4 w ![0, 0, 3, 1] slices_S64x3x4x4_S64x3x1x1_0_0_3_1)
      (tap4 w ![0, 0, 1, 3] slices_S64x3x4x4_S64x3x1x1_0_0_1_3)
      (tap4 w ![0, 0, 1, 1] slices_S64x3x4x4_S64x3x1x1_0_0_1_1))
    (column4 (tap4 w ![0, 0, 3, 2] slices_S64x3x4x4_S64x3x1x1_0_0_3_2)
      (tap4 w ![0, 0, 3, 0] slices_S64x3x4x4_S64x3x1x1_0_0_3_0)
      (tap4 w ![0, 0, 1, 2] slices_S64x3x4x4_S64x3x1x1_0_0_1_2)
      (tap4 w ![0, 0, 1, 0] slices_S64x3x4x4_S64x3x1x1_0_0_1_0))
    (column4 (tap4 w ![0, 0, 2, 3] slices_S64x3x4x4_S64x3x1x1_0_0_2_3)
      (tap4 w ![0, 0, 2, 1] slices_S64x3x4x4_S64x3x1x1_0_0_2_1)
      (tap4 w ![0, 0, 0, 3] slices_S64x3x4x4_S64x3x1x1_0_0_0_3)
      (tap4 w ![0, 0, 0, 1] slices_S64x3x4x4_S64x3x1x1_0_0_0_1))
    (column4 (tap4 w ![0, 0, 2, 2] slices_S64x3x4x4_S64x3x1x1_0_0_2_2)
      (tap4 w ![0, 0, 2, 0] slices_S64x3x4x4_S64x3x1x1_0_0_2_0)
      (tap4 w ![0, 0, 0, 2] slices_S64x3x4x4_S64x3x1x1_0_0_0_2)
      (tap4 w ![0, 0, 0, 0] slices_S64x3x4x4_S64x3x1x1_0_0_0_0))

/-- A stack of four classes as one block-diagonal matrix. -/
def blockDiag (x : FVec Ideal S4x256x3 .f32) : FVec Ideal S1024x12 .f32 :=
    diag4 (part4 x ![0, 0, 0] slices_S4x256x3_S1x256x3_0_0_0) (part4 x ![1, 0, 0] slices_S4x256x3_S1x256x3_1_0_0)
      (part4 x ![2, 0, 0] slices_S4x256x3_S1x256x3_2_0_0) (part4 x ![3, 0, 0] slices_S4x256x3_S1x256x3_3_0_0)

/-- The contents the lines `a … a + n` of the host's first stretch leave, from the contents before them. -/
abbrev lines (a n : ℕ) (W : Valuation τ sig (Elt Ideal)) : Valuation τ sig (Elt Ideal) := StableHlo.after ((hostOps0.drop a).take n) W

/-- The contents the host's second and third stretches leave, from the contents before them. -/
abbrev rest (W : Valuation τ sig (Elt Ideal)) : Valuation τ sig (Elt Ideal) := StableHlo.after hostOps0_2 (StableHlo.after hostOps0_1 W)

/-! Each stretch's results over the contents before it. -/

/-- The column of class (0, 0) of the third layer. -/
theorem v12_lines (W : Valuation τ sig (Elt Ideal)) : lines 0 40 W (Proc.devRef .tc main_v12) = column3 (tap3 (W (Proc.devRef .tc main_arg6)) ![0, 0, 3, 3] slices_S128x64x4x4_S128x64x1x1_0_0_3_3)
      (tap3 (W (Proc.devRef .tc main_arg6)) ![0, 0, 3, 1] slices_S128x64x4x4_S128x64x1x1_0_0_3_1)
      (tap3 (W (Proc.devRef .tc main_arg6)) ![0, 0, 1, 3] slices_S128x64x4x4_S128x64x1x1_0_0_1_3)
      (tap3 (W (Proc.devRef .tc main_arg6)) ![0, 0, 1, 1] slices_S128x64x4x4_S128x64x1x1_0_0_1_1) := by
  rfl

/-- The column of class (0, 1) of the third layer. -/
theorem v21_lines (W : Valuation τ sig (Elt Ideal)) : lines 0 40 W (Proc.devRef .tc main_v21) = column3 (tap3 (W (Proc.devRef .tc main_arg6)) ![0, 0, 3, 2] slices_S128x64x4x4_S128x64x1x1_0_0_3_2)
      (tap3 (W (Proc.devRef .tc main_arg6)) ![0, 0, 3, 0] slices_S128x64x4x4_S128x64x1x1_0_0_3_0)
      (tap3 (W (Proc.devRef .tc main_arg6)) ![0, 0, 1, 2] slices_S128x64x4x4_S128x64x1x1_0_0_1_2)
      (tap3 (W (Proc.devRef .tc main_arg6)) ![0, 0, 1, 0] slices_S128x64x4x4_S128x64x1x1_0_0_1_0) := by
  rfl

/-- The column of class (1, 0) of the third layer. -/
theorem v30_lines (W : Valuation τ sig (Elt Ideal)) : lines 0 40 W (Proc.devRef .tc main_v30) = column3 (tap3 (W (Proc.devRef .tc main_arg6)) ![0, 0, 2, 3] slices_S128x64x4x4_S128x64x1x1_0_0_2_3)
      (tap3 (W (Proc.devRef .tc main_arg6)) ![0, 0, 2, 1] slices_S128x64x4x4_S128x64x1x1_0_0_2_1)
      (tap3 (W (Proc.devRef .tc main_arg6)) ![0, 0, 0, 3] slices_S128x64x4x4_S128x64x1x1_0_0_0_3)
      (tap3 (W (Proc.devRef .tc main_arg6)) ![0, 0, 0, 1] slices_S128x64x4x4_S128x64x1x1_0_0_0_1) := by
  rfl

/-- The column of class (1, 1) of the third layer. -/
theorem v39_lines (W : Valuation τ sig (Elt Ideal)) : lines 0 40 W (Proc.devRef .tc main_v39) = column3 (tap3 (W (Proc.devRef .tc main_arg6)) ![0, 0, 2, 2] slices_S128x64x4x4_S128x64x1x1_0_0_2_2)
      (tap3 (W (Proc.devRef .tc main_arg6)) ![0, 0, 2, 0] slices_S128x64x4x4_S128x64x1x1_0_0_2_0)
      (tap3 (W (Proc.devRef .tc main_arg6)) ![0, 0, 0, 2] slices_S128x64x4x4_S128x64x1x1_0_0_0_2)
      (tap3 (W (Proc.devRef .tc main_arg6)) ![0, 0, 0, 0] slices_S128x64x4x4_S128x64x1x1_0_0_0_0) := by
  rfl

/-- The third layer's four columns, stacked. -/
theorem v44_lines (W : Valuation τ sig (Elt Ideal)) : lines 40 5 W (Proc.devRef .tc main_v44) = stack3 (W (Proc.devRef .tc main_v12)) (W (Proc.devRef .tc main_v21))
    (W (Proc.devRef .tc main_v30)) (W (Proc.devRef .tc main_v39)) := by
  rfl

/-- The later lines leave the third layer's stack alone. -/
theorem v44_rest (W : Valuation τ sig (Elt Ideal)) : rest (lines 45 49 W) (Proc.devRef .tc main_v44) = W (Proc.devRef .tc main_v44) := by
  rfl

/-- The column of class (0, 0) of the last layer. -/
theorem v53_lines (W : Valuation τ sig (Elt Ideal)) : lines 45 36 W (Proc.devRef .tc main_v53) = column4 (tap4 (W (Proc.devRef .tc main_arg8)) ![0, 0, 3, 3] slices_S64x3x4x4_S64x3x1x1_0_0_3_3)
      (tap4 (W (Proc.devRef .tc main_arg8)) ![0, 0, 3, 1] slices_S64x3x4x4_S64x3x1x1_0_0_3_1)
      (tap4 (W (Proc.devRef .tc main_arg8)) ![0, 0, 1, 3] slices_S64x3x4x4_S64x3x1x1_0_0_1_3)
      (tap4 (W (Proc.devRef .tc main_arg8)) ![0, 0, 1, 1] slices_S64x3x4x4_S64x3x1x1_0_0_1_1) := by
  rfl

/-- The column of class (0, 1) of the last layer. -/
theorem v62_lines (W : Valuation τ sig (Elt Ideal)) : lines 45 36 W (Proc.devRef .tc main_v62) = column4 (tap4 (W (Proc.devRef .tc main_arg8)) ![0, 0, 3, 2] slices_S64x3x4x4_S64x3x1x1_0_0_3_2)
      (tap4 (W (Proc.devRef .tc main_arg8)) ![0, 0, 3, 0] slices_S64x3x4x4_S64x3x1x1_0_0_3_0)
      (tap4 (W (Proc.devRef .tc main_arg8)) ![0, 0, 1, 2] slices_S64x3x4x4_S64x3x1x1_0_0_1_2)
      (tap4 (W (Proc.devRef .tc main_arg8)) ![0, 0, 1, 0] slices_S64x3x4x4_S64x3x1x1_0_0_1_0) := by
  rfl

/-- The column of class (1, 0) of the last layer. -/
theorem v71_lines (W : Valuation τ sig (Elt Ideal)) : lines 45 36 W (Proc.devRef .tc main_v71) = column4 (tap4 (W (Proc.devRef .tc main_arg8)) ![0, 0, 2, 3] slices_S64x3x4x4_S64x3x1x1_0_0_2_3)
      (tap4 (W (Proc.devRef .tc main_arg8)) ![0, 0, 2, 1] slices_S64x3x4x4_S64x3x1x1_0_0_2_1)
      (tap4 (W (Proc.devRef .tc main_arg8)) ![0, 0, 0, 3] slices_S64x3x4x4_S64x3x1x1_0_0_0_3)
      (tap4 (W (Proc.devRef .tc main_arg8)) ![0, 0, 0, 1] slices_S64x3x4x4_S64x3x1x1_0_0_0_1) := by
  rfl

/-- The column of class (1, 1) of the last layer. -/
theorem v80_lines (W : Valuation τ sig (Elt Ideal)) : lines 45 36 W (Proc.devRef .tc main_v80) = column4 (tap4 (W (Proc.devRef .tc main_arg8)) ![0, 0, 2, 2] slices_S64x3x4x4_S64x3x1x1_0_0_2_2)
      (tap4 (W (Proc.devRef .tc main_arg8)) ![0, 0, 2, 0] slices_S64x3x4x4_S64x3x1x1_0_0_2_0)
      (tap4 (W (Proc.devRef .tc main_arg8)) ![0, 0, 0, 2] slices_S64x3x4x4_S64x3x1x1_0_0_0_2)
      (tap4 (W (Proc.devRef .tc main_arg8)) ![0, 0, 0, 0] slices_S64x3x4x4_S64x3x1x1_0_0_0_0) := by
  rfl

/-- The last layer's four columns, stacked. -/
theorem v85_lines (W : Valuation τ sig (Elt Ideal)) : lines 81 5 W (Proc.devRef .tc main_v85) = stack4 (W (Proc.devRef .tc main_v53)) (W (Proc.devRef .tc main_v62))
    (W (Proc.devRef .tc main_v71)) (W (Proc.devRef .tc main_v80)) := by
  rfl

/-- The last layer's stack, made block-diagonal. -/
theorem v94_lines (W : Valuation τ sig (Elt Ideal)) : rest (lines 86 8 W) (Proc.devRef .tc main_v94)
    = blockDiag (W (Proc.devRef .tc main_v85)) := by
  rfl

/-- The earlier lines leave the last layer's weights alone. -/
theorem arg8_lines (W : Valuation τ sig (Elt Ideal)) : lines 0 45 W (Proc.devRef .tc main_arg8) = W (Proc.devRef .tc main_arg8) := by
  rfl

/-- Two stretches of the host's lines, one after the other. -/
theorem after_two (a b : List (HloOp τ sig (Elt Ideal))) (W : Valuation τ sig (Elt Ideal)) :
    StableHlo.after (a ++ b) W = StableHlo.after b (StableHlo.after a W) := by
  induction a generalizing W with
  | nil => rfl
  | cons x a ih => exact ih _

variable (m : (ℓ : Loc nD τ sig) → Buf (Elt Ideal) ℓ) (c : Dev nD)

/-- The first lines, cut in two. -/
theorem lines_add (a b : ℕ) (W : Valuation τ sig (Elt Ideal)) : lines 0 (a + b) W = lines a b (lines 0 a W) := by
  show StableHlo.after ((hostOps0.drop 0).take (a + b)) W = StableHlo.after ((hostOps0.drop a).take b) (StableHlo.after ((hostOps0.drop 0).take a) W)
  rw [← after_two, List.drop_zero, List.take_add]

/-- The contents the kernel starts from, stretch by stretch. -/
theorem V0_eq : V0 m c = rest (lines 0 94 fun b => m (c, b)) := by
  show StableHlo.after (hostOps0 ++ (hostOps0_1 ++ (hostOps0_2 ++ []))) _ = _
  rw [List.append_nil, after_two, after_two]
  exact congrArg rest (congrArg (fun l => StableHlo.after l _) (List.take_of_length_le (l := (hostOps0 : List (HloOp τ sig (Elt Ideal)))) (le_refl 94)).symm)

/-- The third layer's weights as the kernel reads them. -/
theorem v44_eq : V m c main_v44 = classes3 (m ((c : Thread nD τ).loc main_arg6)) := by
  show V0 m c (Proc.devRef .tc main_v44) = _
  rw [V0_eq, lines_add 45 49, v44_rest, lines_add 40 5, v44_lines, v12_lines, v21_lines, v30_lines, v39_lines]
  rfl

/-- The last layer's weights as the kernel reads them. -/
theorem v94_eq : V m c main_v94 = blockDiag (classes4 (m ((c : Thread nD τ).loc main_arg8))) := by
  show V0 m c (Proc.devRef .tc main_v94) = _
  rw [V0_eq, lines_add 86 8, v94_lines, lines_add 81 5, v85_lines, lines_add 45 36, v53_lines, v62_lines, v71_lines, v80_lines, arg8_lines]
  rfl

end Cert.KernelIdeal.Val
-- ==== Proof.Weights.lean ====
/-
  The host's layouts read at an index: the weights tap by tap, the biases as rows, and each frame's landmarks.
-/
module

public import proofs.«01_k».proof.Proof.HostIn

@[expose] public section

set_option maxRecDepth 16384

noncomputable section

namespace Cert.KernelIdeal.Val

open Idealize.ShloMosaic Idealize.ShloMosaic.TcCoe Cert.KernelIdeal Cert.KernelIdeal.Gen Cert.Net

/-- A slice of the third layer's weights at tap `(a, b)`. -/
theorem tap3_apply (w : FVec Ideal S128x64x4x4 .f32) (off : Fin 4 → ℕ) (h : S128x64x4x4.Slices off S128x64x1x1) (k : Fin 128) (o : Fin 64)
    (a b : Fin 4) (h0 : off 0 = 0) (h1 : off 1 = 0) (h2 : off 2 = a.val) (h3 : off 3 = b.val) : tap3 w off h (ix2 k o) = w (ix4 k o a b) := by
  unfold tap3
  pointwise
  refine congrArg w ?_
  simp only [ix4_inj, Fin.ext_iff]
  refine ⟨?_, ?_, ?_, ?_⟩ <;> omega

/-- Row `128·s + k` of a column is row `k` of its `s`-th tap. -/
theorem column3_apply (a b d e : FVec Ideal S128x64 .f32) (s : Fin 4) (k : Fin 128) (o : Fin 64) :
    column3 a b d e (ix2 ⟨128 * s.val + k.val, by omega⟩ o) = (![a, b, d, e] s : FVec Ideal S128x64 .f32) (ix2 k o) := by
  unfold column3
  pointwise
  by_cases h1 : 128 * s.val + k.val < 128
  · obtain rfl : s = 0 := Fin.ext (show s.val = 0 by omega)
    rw [dif_pos h1]
    exact congrArg a ((ix2_inj _ _ _ _).mpr ⟨Fin.ext (show 128 * 0 + k.val = k.val by omega), rfl⟩)
  rw [dif_neg h1]
  by_cases h2 : 128 * s.val + k.val - 128 < 128
  · obtain rfl : s = 1 := Fin.ext (show s.val = 1 by omega)
    rw [dif_pos h2]
    exact congrArg b ((ix2_inj _ _ _ _).mpr ⟨Fin.ext (show 128 * 1 + k.val - 128 = k.val by omega), rfl⟩)
  rw [dif_neg h2]
  by_cases h3 : 128 * s.val + k.val - 128 - 128 < 128
  · obtain rfl : s = 2 := Fin.ext (show s.val = 2 by omega)
    rw [dif_pos h3]
    exact congrArg d ((ix2_inj _ _ _ _).mpr ⟨Fin.ext (show 128 * 2 + k.val - 128 - 128 = k.val by omega), rfl⟩)
  · obtain rfl : s = 3 := Fin.ext (show s.val = 3 by omega)
    rw [dif_neg h3]
    exact congrArg e ((ix2_inj _ _ _ _).mpr ⟨Fin.ext (show 128 * 3 + k.val - 128 - 128 - 128 = k.val by omega), rfl⟩)

/-- Class `(r, q)` of the stack is its `2·r + q`-th column. -/
theorem stack3_apply (a b d e : FVec Ideal S512x64 .f32) (r q : Fin 2) (x : Fin 512) (o : Fin 64) :
    stack3 a b d e (ix3 ⟨2 * r.val + q.val, by omega⟩ x o) = (![a, b, d, e] (⟨2 * r.val + q.val, by omega⟩ : Fin 4) : FVec Ideal S512x64 .f32) (ix2 x o) := by
  unfold stack3
  pointwise
  generalize hg : (⟨2 * r.val + q.val, by omega⟩ : Fin 4) = g
  have hv : 2 * r.val + q.val = g.val := congrArg Fin.val hg
  simp only [hv]
  split_ifs with h1 h2 h3
  · obtain rfl : g = 0 := Fin.ext (show g.val = 0 by omega)
    rfl
  · obtain rfl : g = 1 := Fin.ext (show g.val = 1 by omega)
    rfl
  · obtain rfl : g = 2 := Fin.ext (show g.val = 2 by omega)
    rfl
  · obtain rfl : g = 3 := Fin.ext (show g.val = 3 by omega)
    rfl

/-- Row `64·s + k` of a column is row `k` of its `s`-th tap. -/
theorem column4_apply (a b d e : FVec Ideal S64x3 .f32) (s : Fin 4) (k : Fin 64) (o : Fin 3) :
    column4 a b d e (ix2 ⟨64 * s.val + k.val, by omega⟩ o) = (![a, b, d, e] s : FVec Ideal S64x3 .f32) (ix2 k o) := by
  unfold column4
  pointwise
  by_cases h1 : 64 * s.val + k.val < 64
  · obtain rfl : s = 0 := Fin.ext (show s.val = 0 by omega)
    rw [dif_pos h1]
    exact congrArg a ((ix2_inj _ _ _ _).mpr ⟨Fin.ext (show 64 * 0 + k.val = k.val by omega), rfl⟩)
  rw [dif_neg h1]
  by_cases h2 : 64 * s.val + k.val - 64 < 64
  · obtain rfl : s = 1 := Fin.ext (show s.val = 1 by omega)
    rw [dif_pos h2]
    exact congrArg b ((ix2_inj _ _ _ _).mpr ⟨Fin.ext (show 64 * 1 + k.val - 64 = k.val by omega), rfl⟩)
  rw [dif_neg h2]
  by_cases h3 : 64 * s.val + k.val - 64 - 64 < 64
  · obtain rfl : s = 2 := Fin.ext (show s.val = 2 by omega)
    rw [dif_pos h3]
    exact congrArg d ((ix2_inj _ _ _ _).mpr ⟨Fin.ext (show 64 * 2 + k.val - 64 - 64 = k.val by omega), rfl⟩)
  · obtain rfl : s = 3 := Fin.ext (show s.val = 3 by omega)
    rw [dif_neg h3]
    exact congrArg e ((ix2_inj _ _ _ _).mpr ⟨Fin.ext (show 64 * 3 + k.val - 64 - 64 - 64 = k.val by omega), rfl⟩)

/-- Four blocks of 256 rows, one above the other. -/
def rows (a b d e : FVec Ideal S256x12 .f32) : FVec Ideal S1024x12 .f32 :=
  concatenate S1024x12 0 [⟨S256x12, a⟩, ⟨S256x12, b⟩, ⟨S256x12, d⟩, ⟨S256x12, e⟩] concatenates_S256x12_S256x12_S256x12_S256x12_S1024x12_d0

/-- Row `256·s + k` is row `k` of the `s`-th block. -/
theorem rows_apply (a b d e : FVec Ideal S256x12 .f32) (s : Fin 4) (k : Fin 256) (o : Fin 12) :
    rows a b d e (ix2 ⟨256 * s.val + k.val, by omega⟩ o) = (![a, b, d, e] s : FVec Ideal S256x12 .f32) (ix2 k o) := by
  unfold rows
  pointwise
  by_cases h1 : 256 * s.val + k.val < 256
  · obtain rfl : s = 0 := Fin.ext (show s.val = 0 by omega)
    rw [dif_pos h1]
    exact congrArg a ((ix2_inj _ _ _ _).mpr ⟨Fin.ext (show 256 * 0 + k.val = k.val by omega), rfl⟩)
  rw [dif_neg h1]
  by_cases h2 : 256 * s.val + k.val - 256 < 256
  · obtain rfl : s = 1 := Fin.ext (show s.val = 1 by omega)
    rw [dif_pos h2]
    exact congrArg b ((ix2_inj _ _ _ _).mpr ⟨Fin.ext (show 256 * 1 + k.val - 256 = k.val by omega), rfl⟩)
  rw [dif_neg h2]
  by_cases h3 : 256 * s.val + k.val - 256 - 256 < 256
  · obtain rfl : s = 2 := Fin.ext (show s.val = 2 by omega)
    rw [dif_pos h3]
    exact congrArg d ((ix2_inj _ _ _ _).mpr ⟨Fin.ext (show 256 * 2 + k.val - 256 - 256 = k.val by omega), rfl⟩)
  · obtain rfl : s = 3 := Fin.ext (show s.val = 3 by omega)
    rw [dif_neg h3]
    exact congrArg e ((ix2_inj _ _ _ _).mpr ⟨Fin.ext (show 256 * 3 + k.val - 256 - 256 - 256 = k.val by omega), rfl⟩)

/-- Three columns set among twelve, zeros beside them. -/
theorem pad4_apply (a : FVec Ideal S256x3 .f32) (lo hi : ℕ) (hp : S256x3.Pads ![0, lo] ![0, hi] ![0, 0] S256x12) (k h : Fin 4) (hlo : lo = 3 * k.val)
    (x : Fin 256) (o : Fin 3) : pad S256x12 ![0, lo] ![0, hi] ![0, 0] a (constant S_ .f32 0x00000000#32) hp h_S_ (ix2 x ⟨3 * h.val + o.val, by omega⟩)
      = if k = h then a (ix2 x o) else 0 := by
  pointwise
  by_cases hk : k = h
  · subst hk
    rw [if_pos rfl, dif_pos (by omega)]
    exact congrArg a ((ix2_inj _ _ _ _).mpr ⟨rfl, Fin.ext (show 3 * k.val + o.val - lo = o.val by omega)⟩)
  · rw [if_neg hk, dif_neg fun hc => hk (Fin.ext (by omega))]

/-- Block `g`'s rows meet block `g`'s columns; elsewhere there is zero. -/
theorem diag4_apply (a b d e : FVec Ideal S256x3 .f32) (g h : Fin 4) (x : Fin 256) (o : Fin 3) :
    diag4 a b d e (ix2 ⟨256 * g.val + x.val, by omega⟩ ⟨3 * h.val + o.val, by omega⟩)
      = if g = h then (![a, b, d, e] g : FVec Ideal S256x3 .f32) (ix2 x o) else 0 := by
  refine (rows_apply _ _ _ _ g x ⟨3 * h.val + o.val, by omega⟩).trans ?_
  match g with
  | 0 => exact pad4_apply a 0 9 pads_S256x3_S256x12_000_090 0 h rfl x o
  | 1 => exact pad4_apply b 3 6 pads_S256x3_S256x12_000_360 1 h rfl x o
  | 2 => exact pad4_apply d 6 3 pads_S256x3_S256x12_000_630 2 h rfl x o
  | 3 => exact pad4_apply e 9 0 pads_S256x3_S256x12_000_900 3 h rfl x o

/-- Class `g` of the stack is its `g`-th column. -/
theorem stack4_apply (a b d e : FVec Ideal S256x3 .f32) (g : Fin 4) (x : Fin 256) (o : Fin 3) :
    stack4 a b d e (ix3 g x o) = (![a, b, d, e] g : FVec Ideal S256x3 .f32) (ix2 x o) := by
  unfold stack4
  match g with
  | 0 => pointwise
  | 1 => pointwise
  | 2 => pointwise
  | 3 => pointwise

/-- A slice of the stack at class `g`. -/
theorem part4_apply (x : FVec Ideal S4x256x3 .f32) (off : Fin 3 → ℕ) (h : S4x256x3.Slices off S1x256x3) (g : Fin 4) (k : Fin 256) (o : Fin 3)
    (h0 : off 0 = g.val) (h1 : off 1 = 0) (h2 : off 2 = 0) : part4 x off h (ix2 k o) = x (ix3 g k o) := by
  unfold part4
  pointwise
  refine congrArg x ?_
  simp only [ix3_inj, Fin.ext_iff]
  refine ⟨?_, ?_, ?_⟩ <;> omega

/-- A slice of the last layer's weights at tap `(a, b)`. -/
theorem tap4_apply (w : FVec Ideal S64x3x4x4 .f32) (off : Fin 4 → ℕ) (h : S64x3x4x4.Slices off S64x3x1x1) (k : Fin 64) (o : Fin 3)
    (a b : Fin 4) (h0 : off 0 = 0) (h1 : off 1 = 0) (h2 : off 2 = a.val) (h3 : off 3 = b.val) : tap4 w off h (ix2 k o) = w (ix4 k o a b) := by
  unfold tap4
  pointwise
  refine congrArg w ?_
  simp only [ix4_inj, Fin.ext_iff]
  refine ⟨?_, ?_, ?_, ?_⟩ <;> omega

/-- Row `128·s + k` of class `(r, q)` in the third layer's stack is the tap that class meets at place `s` of its window. -/
theorem classes3_apply (w : FVec Ideal S128x64x4x4 .f32) (r q : Fin 2) (s : Fin 4) (k : Fin 128) (o : Fin 64) :
    classes3 w (ix3 ⟨2 * r.val + q.val, by omega⟩ ⟨128 * s.val + k.val, by omega⟩ o)
      = w (ix4 k o (flipTap r.val (s.val / 2)) (flipTap q.val (s.val % 2))) := by
  refine (stack3_apply _ _ _ _ r q _ o).trans ?_
  fin_cases r <;> fin_cases q <;>
    (refine (column3_apply _ _ _ _ s k o).trans ?_
     fin_cases s <;> exact tap3_apply w _ (by decide) k o _ _ rfl rfl rfl rfl)

/-- Row `64·s + k` of class `g` in the last layer's stack is the tap that class meets at place `s` of its window. -/
theorem classes4_apply (w : FVec Ideal S64x3x4x4 .f32) (g s : Fin 4) (k : Fin 64) (o : Fin 3) :
    classes4 w (ix3 g ⟨64 * s.val + k.val, by omega⟩ o)
      = w (ix4 k o (flipTap (g.val / 2) (s.val / 2)) (flipTap (g.val % 2) (s.val % 2))) := by
  refine (stack4_apply _ _ _ _ g _ o).trans ?_
  fin_cases g <;>
    (refine (column4_apply _ _ _ _ s k o).trans ?_
     fin_cases s <;> exact tap4_apply w _ (by decide) k o _ _ rfl rfl rfl rfl)

/-- The block-diagonal matrix: class `g`'s rows meet class `h`'s columns only where `g = h`. -/
theorem blockDiag_apply (x : FVec Ideal S4x256x3 .f32) (g h : Fin 4) (k : Fin 256) (o : Fin 3) :
    blockDiag x (ix2 ⟨256 * g.val + k.val, by omega⟩ ⟨3 * h.val + o.val, by omega⟩) = if g = h then x (ix3 g k o) else 0 := by
  refine (diag4_apply _ _ _ _ g h k o).trans (if_congr Iff.rfl ?_ rfl)
  match g with
  | 0 => exact part4_apply x _ slices_S4x256x3_S1x256x3_0_0_0 0 k o rfl rfl rfl
  | 1 => exact part4_apply x _ slices_S4x256x3_S1x256x3_1_0_0 1 k o rfl rfl rfl
  | 2 => exact part4_apply x _ slices_S4x256x3_S1x256x3_2_0_0 2 k o rfl rfl rfl
  | 3 => exact part4_apply x _ slices_S4x256x3_S1x256x3_3_0_0 3 k o rfl rfl rfl

variable (m : (ℓ : Loc nD τ sig) → Buf (Elt Ideal) ℓ) (c : Dev nD)

/-- The first layer's weights as the kernel reads them: row `4·t + k` of column `o` is tap `t` of input map `k`. -/
theorem v1_apply (t : Fin 16) (k : Fin 4) (o : Fin 64) :
    (V m c main_v1 : FVec Ideal S64x64 .f32) (ix2 ⟨4 * t.val + k.val, by omega⟩ o)
      = (m ((c : Thread nD τ).loc main_arg2) : FVec Ideal S64x4x4x4 .f32) (ix4 o k (tapRow t) (tapCol t)) := by
  show StableHlo.after (List.flatten [hostOps0, hostOps0_1, hostOps0_2]) _ (Proc.devRef .tc main_v1) _ = _
  simp only [List.flatten_cons, List.flatten_nil, List.append_nil, List.cons_append, List.nil_append]
  after_results
  generalize m _ = w
  pointwise
  exact congrArg₂ (fun a b => w (ix4 o k a b)) (Fin.ext (show (4 * t.val + k.val) / 16 = t.val / 4 by omega))
    (Fin.ext (show (4 * t.val + k.val) / 4 % 4 = t.val % 4 by omega))

/-- The second layer's weights as the kernel reads them. -/
theorem v3_apply (t : Fin 16) (k : Fin 64) (o : Fin 128) :
    (V m c main_v3 : FVec Ideal S1024x128 .f32) (ix2 ⟨64 * t.val + k.val, by omega⟩ o)
      = (m ((c : Thread nD τ).loc main_arg4) : FVec Ideal S128x64x4x4 .f32) (ix4 o k (tapRow t) (tapCol t)) := by
  show StableHlo.after (List.flatten [hostOps0, hostOps0_1, hostOps0_2]) _ (Proc.devRef .tc main_v3) _ = _
  simp only [List.flatten_cons, List.flatten_nil, List.append_nil, List.cons_append, List.nil_append]
  after_results
  generalize m _ = w
  pointwise
  exact congrArg₂ (fun a b => w (ix4 o k a b)) (Fin.ext (show (64 * t.val + k.val) / 256 = t.val / 4 by omega))
    (Fin.ext (show (64 * t.val + k.val) / 64 % 4 = t.val % 4 by omega))

/-- The last layer's bias, once per class. -/
theorem v98_apply (h : Fin 4) (o : Fin 3) : (V m c main_v98 : FVec Ideal S1x12 .f32) (ix2 0 ⟨3 * h.val + o.val, by omega⟩)
    = (m ((c : Thread nD τ).loc main_arg9) : FVec Ideal S3 .f32) (ix1 o) := by
  show StableHlo.after (List.flatten [hostOps0, hostOps0_1, hostOps0_2]) _ (Proc.devRef .tc main_v98) _ = _
  simp only [List.flatten_cons, List.flatten_nil, List.append_nil, List.cons_append, List.nil_append]
  after_results
  generalize m _ = w
  pointwise
  exact congrArg (fun i => w (ix1 i)) (Fin.ext (show (3 * h.val + o.val) % 3 = o.val by omega))

/-- The landmarks, columns and rows apart. -/
theorem v100_apply (n : Fin 256) (k : Fin 2) (l : Fin 68) : (V m c main_v100 : FVec Ideal S256x2x68 .f32) (ix3 n k l)
    = (m ((c : Thread nD τ).loc main_arg1) : FVec Ideal S8x32x136 .f32)
        (ix3 ⟨n.val / 32, by omega⟩ ⟨n.val % 32, by omega⟩ ⟨l.val * 2 + k.val, by omega⟩) := by
  show StableHlo.after (List.flatten [hostOps0, hostOps0_1, hostOps0_2]) _ (Proc.devRef .tc main_v100) _ = _
  simp only [List.flatten_cons, List.flatten_nil, List.append_nil, List.cons_append, List.nil_append]
  after_results
  generalize m _ = w
  pointwise

/-- The first layer's bias as a row. -/
theorem v101_apply (o : Fin 64) : (V m c main_v101 : FVec Ideal S1x64 .f32) (ix2 0 o) = (m ((c : Thread nD τ).loc main_arg3) : FVec Ideal S64 .f32) (ix1 o) := by
  show StableHlo.after (List.flatten [hostOps0, hostOps0_1, hostOps0_2]) _ (Proc.devRef .tc main_v101) _ = _
  simp only [List.flatten_cons, List.flatten_nil, List.append_nil, List.cons_append, List.nil_append]
  after_results
  generalize m _ = w
  pointwise

/-- The second layer's bias as a row. -/
theorem v102_apply (o : Fin 128) : (V m c main_v102 : FVec Ideal S1x128 .f32) (ix2 0 o) = (m ((c : Thread nD τ).loc main_arg5) : FVec Ideal S128 .f32) (ix1 o) := by
  show StableHlo.after (List.flatten [hostOps0, hostOps0_1, hostOps0_2]) _ (Proc.devRef .tc main_v102) _ = _
  simp only [List.flatten_cons, List.flatten_nil, List.append_nil, List.cons_append, List.nil_append]
  after_results
  generalize m _ = w
  pointwise

/-- The third layer's bias as a row. -/
theorem v103_apply (o : Fin 64) : (V m c main_v103 : FVec Ideal S1x64 .f32) (ix2 0 o) = (m ((c : Thread nD τ).loc main_arg7) : FVec Ideal S64 .f32) (ix1 o) := by
  show StableHlo.after (List.flatten [hostOps0, hostOps0_1, hostOps0_2]) _ (Proc.devRef .tc main_v103) _ = _
  simp only [List.flatten_cons, List.flatten_nil, List.append_nil, List.cons_append, List.nil_append]
  after_results
  generalize m _ = w
  pointwise

/-- The third layer's weights as the kernel reads them. -/
theorem v44_apply (r q : Fin 2) (s : Fin 4) (k : Fin 128) (o : Fin 64) :
    (V m c main_v44 : FVec Ideal S4x512x64 .f32) (ix3 ⟨2 * r.val + q.val, by omega⟩ ⟨128 * s.val + k.val, by omega⟩ o)
      = (m ((c : Thread nD τ).loc main_arg6) : FVec Ideal S128x64x4x4 .f32)
          (ix4 k o (flipTap r.val (s.val / 2)) (flipTap q.val (s.val % 2))) :=
  (congrFun (v44_eq m c) _).trans (classes3_apply _ r q s k o)

/-- The last layer's weights as the kernel reads them. -/
theorem v94_apply (g h s : Fin 4) (k : Fin 64) (o : Fin 3) :
    (V m c main_v94 : FVec Ideal S1024x12 .f32) (ix2 ⟨256 * g.val + (64 * s.val + k.val), by omega⟩ ⟨3 * h.val + o.val, by omega⟩)
      = (if g = h then (m ((c : Thread nD τ).loc main_arg8) : FVec Ideal S64x3x4x4 .f32)
          (ix4 k o (flipTap (h.val / 2) (s.val / 2)) (flipTap (h.val % 2) (s.val % 2))) else 0 : EReal) := by
  refine (congrFun (v94_eq m c) _).trans ((blockDiag_apply _ g h ⟨64 * s.val + k.val, by omega⟩ o).trans ?_)
  by_cases hg : g = h
  · subst hg
    rw [if_pos rfl, if_pos rfl]
    exact classes4_apply _ g s k o
  · rw [if_neg hg, if_neg hg]

end Cert.KernelIdeal.Val
-- ==== Proof.Blocks.lean ====
/-
  What the kernel's input blocks hold at each grid point: the image of the frame's sequence, the frame's landmarks, and the weights
  and biases whole.
-/
module

public import proofs.«01_k».proof.Proof.Gen.KernelIdeal.Frame
public import proofs.«01_k».proof.Proof.Net
public import Idealize.ShloMosaic.Lib.Pipeline.ValueKit.Geometry

@[expose] public section

set_option maxRecDepth 16384

noncomputable section

namespace Cert.KernelIdeal.Val

open Idealize.ShloMosaic Idealize.ShloMosaic.TcCoe Cert.KernelIdeal Cert.KernelIdeal.Gen Cert.Net

variable (m : (ℓ : Loc nD τ sig) → Buf (Elt Ideal) ℓ) (c : Dev nD)

/-- A grid point is a frame. -/
theorem lt_frames (t : Fin cfg0.N) : t.val < 256 := t.isLt

/-- Input 0's block at frame `t` is the image of the frame's sequence. -/
theorem block0 (t : Fin cfg0.N) (k : Fin 3) (a b : Fin 96) : (iblk m c 0 t : FVec Ideal S1x3x96x96 .f32) (ix4 0 k a b)
    = (m ((c : Thread nD τ).loc main_arg0) : FVec Ideal S8x3x96x96 .f32) (ix4 ⟨t.val / 32, by have := lt_frames t; omega⟩ k a b) := by
  have e : ∀ t : Fin cfg0.N, win0_0.index t = ![t.val / 32, 0, 0, 0] := (by decide +kernel : ∀ t : Fin grid0.N, _)
  blk_simp [iblk]
  rw [V_main_arg0]
  refine congrArg (m ((c : Thread nD τ).loc main_arg0) : FVec Ideal S8x3x96x96 .f32) ?_
  blk_ext [e]

/-- Input 1's block at frame `t` holds the frame's landmarks. -/
theorem block1 (t : Fin cfg0.N) (k : Fin 2) (l : Fin 68) : (iblk m c 1 t : FVec Ideal S1x2x68 .f32) (ix3 0 k l)
    = (V m c main_v100 : FVec Ideal S256x2x68 .f32) (ix3 ⟨t.val, lt_frames t⟩ k l) := by
  have e : ∀ t : Fin cfg0.N, win0_1.index t = ![t.val, 0, 0] := (by decide +kernel : ∀ t : Fin grid0.N, _)
  blk_simp [iblk]
  refine congrArg (V m c main_v100 : FVec Ideal S256x2x68 .f32) ?_
  blk_ext [e]

/-! The weights' and biases' blocks are the whole arrays, at every frame. -/

/-- The first layer's weights. -/
theorem block2 (t : Fin cfg0.N) : (iblk m c 2 t : FVec Ideal S64x64 .f32) = V m c main_v1 := by
  have e : ∀ t : Fin cfg0.N, win0_2.index t = ![0, 0] := (by decide +kernel : ∀ t : Fin grid0.N, _)
  funext i
  blk_simp [iblk]
  refine congrArg (V m c main_v1 : FVec Ideal S64x64 .f32) ?_
  blk_ext [e]

/-- The first layer's bias. -/
theorem block3 (t : Fin cfg0.N) : (iblk m c 3 t : FVec Ideal S1x64 .f32) = V m c main_v101 := by
  have e : ∀ t : Fin cfg0.N, win0_3.index t = ![0, 0] := (by decide +kernel : ∀ t : Fin grid0.N, _)
  funext i
  blk_simp [iblk]
  refine congrArg (V m c main_v101 : FVec Ideal S1x64 .f32) ?_
  blk_ext [e]

/-- The second layer's weights. -/
theorem block4 (t : Fin cfg0.N) : (iblk m c 4 t : FVec Ideal S1024x128 .f32) = V m c main_v3 := by
  have e : ∀ t : Fin cfg0.N, win0_4.index t = ![0, 0] := (by decide +kernel : ∀ t : Fin grid0.N, _)
  funext i
  blk_simp [iblk]
  refine congrArg (V m c main_v3 : FVec Ideal S1024x128 .f32) ?_
  blk_ext [e]

/-- The second layer's bias. -/
theorem block5 (t : Fin cfg0.N) : (iblk m c 5 t : FVec Ideal S1x128 .f32) = V m c main_v102 := by
  have e : ∀ t : Fin cfg0.N, win0_5.index t = ![0, 0] := (by decide +kernel : ∀ t : Fin grid0.N, _)
  funext i
  blk_simp [iblk]
  refine congrArg (V m c main_v102 : FVec Ideal S1x128 .f32) ?_
  blk_ext [e]

/-- The third layer's weights, a stack of the four classes. -/
theorem block6 (t : Fin cfg0.N) : (iblk m c 6 t : FVec Ideal S4x512x64 .f32) = V m c main_v44 := by
  have e : ∀ t : Fin cfg0.N, win0_6.index t = ![0, 0, 0] := (by decide +kernel : ∀ t : Fin grid0.N, _)
  funext i
  blk_simp [iblk]
  refine congrArg (V m c main_v44 : FVec Ideal S4x512x64 .f32) ?_
  blk_ext [e]

/-- The third layer's bias. -/
theorem block7 (t : Fin cfg0.N) : (iblk m c 7 t : FVec Ideal S1x64 .f32) = V m c main_v103 := by
  have e : ∀ t : Fin cfg0.N, win0_7.index t = ![0, 0] := (by decide +kernel : ∀ t : Fin grid0.N, _)
  funext i
  blk_simp [iblk]
  refine congrArg (V m c main_v103 : FVec Ideal S1x64 .f32) ?_
  blk_ext [e]

/-- The last layer's block-diagonal weights. -/
theorem block8 (t : Fin cfg0.N) : (iblk m c 8 t : FVec Ideal S1024x12 .f32) = V m c main_v94 := by
  have e : ∀ t : Fin cfg0.N, win0_8.index t = ![0, 0] := (by decide +kernel : ∀ t : Fin grid0.N, _)
  funext i
  blk_simp [iblk]
  refine congrArg (V m c main_v94 : FVec Ideal S1024x12 .f32) ?_
  blk_ext [e]

/-- The last layer's bias, once per class. -/
theorem block9 (t : Fin cfg0.N) : (iblk m c 9 t : FVec Ideal S1x12 .f32) = V m c main_v98 := by
  have e : ∀ t : Fin cfg0.N, win0_9.index t = ![0, 0] := (by decide +kernel : ∀ t : Fin grid0.N, _)
  funext i
  blk_simp [iblk]
  refine congrArg (V m c main_v98 : FVec Ideal S1x12 .f32) ?_
  blk_ext [e]

end Cert.KernelIdeal.Val
-- ==== Proof.Value.lean ====
/-
  The kernel's result array: after the last grid point, frame `n`'s block of the output holds the network on frame `n`, every row of
  twelve being four output pixels of three channels.
-/
module

public import proofs.«01_k».proof.Proof.Block
public import proofs.«01_k».proof.Proof.Weights
public import proofs.«01_k».proof.Proof.Blocks
public import Idealize.ShloMosaic.Lib.Pipeline.ValueKit.Geometry

@[expose] public section

set_option maxRecDepth 16384

noncomputable section

namespace Cert.KernelIdeal.Val

open Idealize.ShloMosaic Idealize.ShloMosaic.TcCoe Cert.KernelIdeal Cert.KernelIdeal.Gen Cert.Net

variable (m : (ℓ : Loc nD τ sig) → Buf (Elt Ideal) ℓ) (c : Dev nD)

/-- The network on the launch's arguments. -/
def net (n : Fin 256) (o : Fin 3) (y v : Fin 96) : EReal :=
  network (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) n o y v

/-- The kernel's output array: entry `3·h + o` of row `(n, i, j)` is channel `o` of the pixel `(2·i + h / 2, 2·j + h mod 2)`. -/
def out (i : S256x48x48x12.Idx) : EReal :=
  have p : Fin 12 := i 3
  have y : Fin 48 := i 1
  have v : Fin 48 := i 2
  net m c (i 0) ⟨p.val % 3, by omega⟩ ⟨2 * y.val + p.val / 3 / 2, by omega⟩ ⟨2 * v.val + p.val / 3 % 2, by omega⟩

/-- The block a frame leaves is that frame's rows of the output array. -/
theorem frame_block (t : Fin cfg0.N) (i j : Fin 48) (h : Fin 4) (o : Fin 3) :
    out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) (ix4 0 i j ⟨3 * h.val + o.val, by omega⟩)
      = net m c ⟨t.val, lt_frames t⟩ o ⟨2 * i.val + h.val / 2, by omega⟩ ⟨2 * j.val + h.val % 2, by omega⟩ := by
  rw [block2, block3, block4, block5, block6, block7, block8, block9]
  exact block_apply _ _ _ _ _ _ _ _ _ _ ⟨t.val, lt_frames t⟩ _ _ _ _ _ _ _ _ _ _ (block0 m c t)
    (fun k l => (block1 m c t k l).trans (v100_apply m c ⟨t.val, lt_frames t⟩ k l)) (v1_apply m c) (v101_apply m c) (v3_apply m c) (v102_apply m c)
    (v44_apply m c) (v103_apply m c) (fun g s k h o => v94_apply m c g h s k o) (v98_apply m c) i j h o _ _ rfl rfl

/-- The output array after the last grid point. -/
theorem final_v104 : (dats m 0 c).arrAt 10 cfg0.N = (out m c : FVec Ideal S256x48x48x12 .f32) := by
  have e : ∀ t : Fin cfg0.N, win0_10.index t = ![t.val, 0, 0, 0] := (by decide +kernel : ∀ t : Fin grid0.N, _)
  refine (dats m 0 c).arrAt_eq_of_covers 10 _ (by decide +kernel) fun t hf y => ?_
  blk_simp
  rw [after0_10]
  idx_bounds y
  have hy : y = ix4 (0 : Fin 1) (y 1 : Fin 48) (y 2 : Fin 48)
      (⟨3 * (⟨(y 3).val / 3, by omega⟩ : Fin 4).val + (⟨(y 3).val % 3, by omega⟩ : Fin 3).val, by show 3 * ((y 3).val / 3) + (y 3).val % 3 < 12; omega⟩ : Fin 12) := by
    funext a
    match a with
    | ⟨0, _⟩ => exact Fin.ext (show (y 0).val = 0 by omega)
    | ⟨1, _⟩ => rfl
    | ⟨2, _⟩ => rfl
    | ⟨3, _⟩ => exact Fin.ext (show (y 3).val = 3 * ((y 3).val / 3) + (y 3).val % 3 by omega)
  have hz : (win0_10.blk t).view.emb y = ix4 (⟨t.val, lt_frames t⟩ : Fin 256) (y 1 : Fin 48) (y 2 : Fin 48) (y 3 : Fin 12) := by
    blk_ext [e]
  refine ((congrArg _ hy).trans (frame_block m c t _ _ _ _)).trans ?_
  rw [hz]
  rfl

end Cert.KernelIdeal.Val
-- ==== Proof.Tail.lean ====
/-
  The kernel's returned array: the lines after the pipeline rearrange the output array's rows of twelve into pixels, and what they
  leave is the network on the launch's arguments.
-/
module

public import proofs.«01_k».proof.Proof.Value

@[expose] public section

set_option maxRecDepth 16384

noncomputable section

namespace Cert.KernelIdeal.Val

open Idealize.SL.Sem Idealize.ShloMosaic Idealize.ShloMosaic.TcCoe Cert.KernelIdeal Cert.KernelIdeal.Gen Cert.Net

/-- The lines after the pipeline, as one function of the output array. -/
def unweave (x : FVec Ideal S256x48x48x12 .f32) : FVec Ideal S8x32x3x96x96 .f32 :=
  shapeCast S8x32x3x96x96 (transpose S256x3x48x2x48x2 [0, 5, 1, 3, 2, 4] (shapeCast S256x48x48x2x2x3 x shapeCasts_S256x48x48x12_S256x48x48x2x2x3)
    transposes_S256x48x48x2x2x3_S256x3x48x2x48x2_0_5_1_3_2_4) shapeCasts_S256x3x48x2x48x2_S8x32x3x96x96

/-- The lines after the pipeline compute `unweave`. -/
theorem v107_lines (W : Valuation τ sig (Elt Ideal)) :
    StableHlo.after hostOps1 W (Proc.devRef .tc main_v107) = unweave (W (Proc.devRef .tc main_v104)) := by
  rfl

/-- Pixel `(y, v)` of channel `o` in frame `32·s + t` is entry `3·(2·(y mod 2) + v mod 2) + o` of row `(32·s + t, y / 2, v / 2)`. -/
theorem unweave_apply (x : FVec Ideal S256x48x48x12 .f32) (s : Fin 8) (t : Fin 32) (o : Fin 3) (y v : Fin 96) :
    unweave x (ix5 s t o y v) = x (ix4 ⟨s.val * 32 + t.val, by omega⟩ ⟨y.val / 2, by omega⟩ ⟨v.val / 2, by omega⟩
      ⟨3 * (2 * (y.val % 2) + v.val % 2) + o.val, by omega⟩) := by
  unfold unweave
  pointwise
  exact congrArg (fun p => x (ix4 _ _ _ p)) (Fin.ext (show y.val % 2 * 6 + v.val % 2 * 3 + o.val = 3 * (2 * (y.val % 2) + v.val % 2) + o.val by omega))

variable (m : (ℓ : Loc nD τ sig) → Buf (Elt Ideal) ℓ) (c : Dev nD)

/-- The network's results on the launch's arguments. -/
def result : FVec Ideal S8x32x3x96x96 .f32 :=
  networkOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The output array, rearranged, is the network's results. -/
theorem unweave_out : unweave (out m c : FVec Ideal S256x48x48x12 .f32) = result m c := by
  funext i
  obtain ⟨s, t, o, y, v, rfl⟩ : ∃ s t o y v, i = ix5 s t o y v := ⟨_, _, _, _, _, eq_ix5 i⟩
  rw [unweave_apply]
  show net m c _ _ _ _ = net m c _ _ _ _
  congr 1 <;> refine Fin.ext ?_
  · show (3 * (2 * (y.val % 2) + v.val % 2) + o.val) % 3 = o.val
    omega
  · show 2 * (y.val / 2) + (3 * (2 * (y.val % 2) + v.val % 2) + o.val) / 3 / 2 = y.val
    omega
  · show 2 * (v.val / 2) + (3 * (2 * (y.val % 2) + v.val % 2) + o.val) / 3 % 2 = v.val
    omega

/-- What the whole program leaves in its result. -/
theorem v107_eq : Pipeline.afterTail₀ cfgs (dats m) 0 (V0 m) [hostOps1] c main_v107 = result m c := by
  unfold Pipeline.afterTail₀
  refine (v107_lines _).trans ?_
  rw [← unweave_out]
  refine congrArg unweave ?_
  exact (Pipeline.withArrays_arr spec0 launch0.win.arr_inj c (V0 m c) (fun w => (dats m 0 c).arrAt w cfg0.N) 10).trans (final_v104 m c)

/-- The idealized kernel ends with the network's results in its result array and its arguments as they were. -/
theorem run (ρ : Dev nD → PrngReg) : θ_run (defs (F := Ideal)) (onTc (τ := τ) (main (F := Ideal))) ⟨m, fun _ => 0, ρ⟩
    (fun r => ∀ c : Dev nD, r.2.mem ((c.tc : Thread nD τ).loc main_v107) = result m c) :=
  (θ_run defs _ _).mono (fun _ h c => (h.rest_eq c main_v107 (Pipeline.mem_restRefs_of main_v107 (by decide) (by decide))).trans (v107_eq m c))
    (run_main m ρ)

end Cert.KernelIdeal.Val
-- ==== Proof.lean ====
/-
  The certificate: the kernel, the idealized kernel and the reference run, keep their arguments and end with every counter at zero;
  the idealized kernel is the kernel's own text; and the idealized kernel and the reference end with equal results, both the network
  of `Proof/Net.lean` on the launch's arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_landmarks_in_range
public import proofs.«01_k».proof.Proof.Range
public import proofs.«01_k».proof.Proof.RefNet
public import proofs.«01_k».proof.Proof.Tail
public import Idealize.ShloMosaic.Lib.Claim
public import Idealize.ShloMosaic.Lib.Quiescent

@[expose] public section

set_option maxRecDepth 16384

noncomputable section

namespace Cert.Proof

open Idealize.ShloMosaic Idealize.SL.Sem

/-- The reference runs, keeps its arguments and ends with every counter at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel and the reference end with equal results: the network on the arguments they share. -/
theorem algebraic : Cert.algebraic_KernelIdeal_ReferenceIdeal_pre_landmarks_in_range := by
  intro m g m' g' hpre hagree
  refine ⟨fun c => Cert.KernelIdeal.Val.result m c, ?_, ?_⟩
  · exact (θ_run Cert.KernelIdeal.defs _ _).mono (fun _ h c => ⟨h.1 c, h.2 c⟩)
      (θ_run_and (Cert.KernelIdeal.Val.run m g) (Cert.KernelIdeal.Gen.unchanged (F := Ideal) m g))
  · refine (θ_run Cert.ReferenceIdeal.defs _ _).mono (fun _ h c => ⟨?_, (h c).2⟩) (Cert.ReferenceIdeal.Value.run (F := Ideal) m' g')
    obtain ⟨e0, e1, e2, e3, e4, e5, e6, e7, e8, e9⟩ := hagree c
    have hr := Cert.ReferenceIdeal.Val.inRange_of_pre _ _ _ _ _ _ _ _ _ _ (hpre c)
    rw [← e1] at hr
    refine (h c).1.trans ((Cert.ReferenceIdeal.Read.val_main_v455_eq (StableHlo.launchContents m' c)).trans
      ((Cert.ReferenceIdeal.Val.v455_apply _ _ hr _ _ _ _ _ _ _ _).trans (Eq.symm ?_)))
    show Cert.KernelIdeal.Val.result m c = _
    unfold Cert.KernelIdeal.Val.result
    rw [← e0, ← e1, ← e2, ← e3, ← e4, ← e5, ← e6, ← e7, ← e8, ← e9]

/-- Everything the certificate claims. -/
theorem claim : Cert.Claim := ⟨Cert.Kernel.Gen.facts, Cert.KernelIdeal.Gen.facts, Cert.ReferenceIdeal.Gen.facts, Cert.Pre_landmarks_in_range.Gen.facts,
  fun m g _ => Cert.Kernel.Gen.frame (F := Bits) m g, fun m g _ => Cert.KernelIdeal.Gen.frame (F := Ideal) m g,
  fun m g _ => Cert.KernelIdeal.Gen.frame (F := Ideal) m g, reference_frame, fun m g _ => reference_frame m g trivial, trivial, algebraic⟩

end Cert.Proof

end
